-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_weights [hPre_finite_weights : Cert.Pre_finite_weights.Facts] (m : (ℓ : Loc Cert.KernelIdeal.nD Cert.KernelIdeal.τ Cert.KernelIdeal.sig) → Buf (Elt Ideal) ℓ) : Prop :=
  ∀ c : Dev Cert.KernelIdeal.nD,
    (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_weights [hPre_finite_weights : Cert.Pre_finite_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_weights [hKernelIdeal : Cert.KernelIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_weights m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_weights [hReferenceIdeal : Cert.ReferenceIdeal.Facts] [hPre_finite_weights : Cert.Pre_finite_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5))
      ∧ r.2.sem = fun _ => 0)

def preserves_Kernel_KernelIdeal : Prop :=
  True

def algebraic_KernelIdeal_ReferenceIdeal_pre_finite_weights [hKernelIdeal : Cert.KernelIdeal.Facts] [hReferenceIdeal : Cert.ReferenceIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v163) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v4_0)) (v1 : (c : Dev Cert.ProjIdeal.nD) → Buf (Elt Ideal) ((c.tc : Thread Cert.ProjIdeal.nD Cert.ProjIdeal.τ).loc Cert.ProjIdeal.main_v4_1)) (v2 : (c : Dev Cert.ProjIdeal.nD) → Buf (Elt Ideal) ((c.tc : Thread Cert.ProjIdeal.nD Cert.ProjIdeal.τ).loc Cert.ProjIdeal.main_v4_2)) (v3 : (c : Dev Cert.ProjIdeal.nD) → Buf (Elt Ideal) ((c.tc : Thread Cert.ProjIdeal.nD Cert.ProjIdeal.τ).loc Cert.ProjIdeal.main_v4_3)) (v4 : (c : Dev Cert.ProjIdeal.nD) → Buf (Elt Ideal) ((c.tc : Thread Cert.ProjIdeal.nD Cert.ProjIdeal.τ).loc Cert.ProjIdeal.main_v4_4)) (v5 : (c : Dev Cert.ProjIdeal.nD) → Buf (Elt Ideal) ((c.tc : Thread Cert.ProjIdeal.nD Cert.ProjIdeal.τ).loc Cert.ProjIdeal.main_v4_5)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v4_0) = v0 c
          ∧ r.2.mem ((c.tc : Thread Cert.ProjIdeal.nD Cert.ProjIdeal.τ).loc Cert.ProjIdeal.main_v4_1) = v1 c
          ∧ r.2.mem ((c.tc : Thread Cert.ProjIdeal.nD Cert.ProjIdeal.τ).loc Cert.ProjIdeal.main_v4_2) = v2 c
          ∧ r.2.mem ((c.tc : Thread Cert.ProjIdeal.nD Cert.ProjIdeal.τ).loc Cert.ProjIdeal.main_v4_3) = v3 c
          ∧ r.2.mem ((c.tc : Thread Cert.ProjIdeal.nD Cert.ProjIdeal.τ).loc Cert.ProjIdeal.main_v4_4) = v4 c
          ∧ r.2.mem ((c.tc : Thread Cert.ProjIdeal.nD Cert.ProjIdeal.τ).loc Cert.ProjIdeal.main_v4_5) = v5 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v15) = v0 c
          ∧ r.2.mem ((c.tc : Thread Cert.ProjRefIdeal.nD Cert.ProjRefIdeal.τ).loc Cert.ProjRefIdeal.main_v16) = v1 c
          ∧ r.2.mem ((c.tc : Thread Cert.ProjRefIdeal.nD Cert.ProjRefIdeal.τ).loc Cert.ProjRefIdeal.main_v17) = v2 c
          ∧ r.2.mem ((c.tc : Thread Cert.ProjRefIdeal.nD Cert.ProjRefIdeal.τ).loc Cert.ProjRefIdeal.main_v18) = v3 c
          ∧ r.2.mem ((c.tc : Thread Cert.ProjRefIdeal.nD Cert.ProjRefIdeal.τ).loc Cert.ProjRefIdeal.main_v19) = v4 c
          ∧ r.2.mem ((c.tc : Thread Cert.ProjRefIdeal.nD Cert.ProjRefIdeal.τ).loc Cert.ProjRefIdeal.main_v23) = v5 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)) →
    ∃ (v0 : (c : Dev Cert.MixIdeal.nD) → Buf (Elt Ideal) ((c.tc : Thread Cert.MixIdeal.nD Cert.MixIdeal.τ).loc Cert.MixIdeal.main_v11_0)) (v1 : (c : Dev Cert.MixIdeal.nD) → Buf (Elt Ideal) ((c.tc : Thread Cert.MixIdeal.nD Cert.MixIdeal.τ).loc Cert.MixIdeal.main_v11_1)) (v2 : (c : Dev Cert.MixIdeal.nD) → Buf (Elt Ideal) ((c.tc : Thread Cert.MixIdeal.nD Cert.MixIdeal.τ).loc Cert.MixIdeal.main_v11_2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v11_0) = v0 c
          ∧ r.2.mem ((c.tc : Thread Cert.MixIdeal.nD Cert.MixIdeal.τ).loc Cert.MixIdeal.main_v11_1) = v1 c
          ∧ r.2.mem ((c.tc : Thread Cert.MixIdeal.nD Cert.MixIdeal.τ).loc Cert.MixIdeal.main_v11_2) = v2 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v17) = v0 c
          ∧ r.2.mem ((c.tc : Thread Cert.MixRefIdeal.nD Cert.MixRefIdeal.τ).loc Cert.MixRefIdeal.main_v18) = v1 c
          ∧ r.2.mem ((c.tc : Thread Cert.MixRefIdeal.nD Cert.MixRefIdeal.τ).loc Cert.MixRefIdeal.main_v19) = v2 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5))

def Claim : Prop :=
  ∃ (hKernel : Cert.Kernel.Facts) (hKernelIdeal : Cert.KernelIdeal.Facts) (hReferenceIdeal : Cert.ReferenceIdeal.Facts) (hProj : Cert.Proj.Facts) (hProjIdeal : Cert.ProjIdeal.Facts) (hProjRefIdeal : Cert.ProjRefIdeal.Facts) (hMix : Cert.Mix.Facts) (hMixIdeal : Cert.MixIdeal.Facts) (hMixRefIdeal : Cert.MixRefIdeal.Facts) (hPre_finite_weights : Cert.Pre_finite_weights.Facts),
    quiescent_Kernel (hKernel := hKernel)
    ∧ quiescent_KernelIdeal (hKernelIdeal := hKernelIdeal)
    ∧ quiescent_KernelIdeal_pre_finite_weights (hKernelIdeal := hKernelIdeal) (hPre_finite_weights := hPre_finite_weights)
    ∧ quiescent_ReferenceIdeal (hReferenceIdeal := hReferenceIdeal)
    ∧ quiescent_ReferenceIdeal_pre_finite_weights (hReferenceIdeal := hReferenceIdeal) (hPre_finite_weights := hPre_finite_weights)
    ∧ quiescent_Proj (hProj := hProj)
    ∧ quiescent_ProjIdeal (hProjIdeal := hProjIdeal)
    ∧ quiescent_ProjRefIdeal (hProjRefIdeal := hProjRefIdeal)
    ∧ quiescent_Mix (hMix := hMix)
    ∧ quiescent_MixIdeal (hMixIdeal := hMixIdeal)
    ∧ quiescent_MixRefIdeal (hMixRefIdeal := hMixRefIdeal)
    ∧ preserves_Kernel_KernelIdeal
    ∧ algebraic_KernelIdeal_ReferenceIdeal_pre_finite_weights (hKernelIdeal := hKernelIdeal) (hReferenceIdeal := hReferenceIdeal) (hPre_finite_weights := hPre_finite_weights)
    ∧ preserves_Proj_ProjIdeal
    ∧ algebraic_ProjIdeal_ProjRefIdeal (hProjIdeal := hProjIdeal) (hProjRefIdeal := hProjRefIdeal)
    ∧ preserves_Mix_MixIdeal
    ∧ algebraic_MixIdeal_MixRefIdeal (hMixIdeal := hMixIdeal) (hMixRefIdeal := hMixRefIdeal)
-- ==== Pre_finite_weights.lean ====
abbrev S4x4096x512 : Shape := ⟨3, ![4, 4096, 512]⟩
abbrev S4x4096x128 : Shape := ⟨3, ![4, 4096, 128]⟩
abbrev S64 : Shape := ⟨1, ![64]⟩
abbrev S8 : Shape := ⟨1, ![8]⟩
abbrev S_ : Shape := ⟨0, ![]⟩

class Facts : Prop where
  bcast_S_S64 : S_.BroadcastsInDim S64 (![] : Fin 0 → Fin S64.rank)
  bcast_S_S8 : S_.BroadcastsInDim S8 (![] : Fin 0 → Fin S8.rank)

variable [Facts]

def fn {F : FTy → Type} [FloatOps F] (main_arg0 : FVec F S4x4096x512 .f32) (main_arg1 : FVec F S4x4096x128 .f32) (main_arg2 : FVec F S4x4096x128 .f32) (main_arg3 : FVec F S64 .f32) (main_arg4 : FVec F S64 .f32) (main_arg5 : FVec F S8 .f32) : IVec S64 1 × IVec S64 1 × IVec S8 1 :=
  let main_v0 : FVec F S64 .f32 := Host.absf main_arg3
  let main_cst : FVec F S_ .f32 := constant S_ .f32 0x7F800000#32
  let main_v1 : FVec F S64 .f32 := broadcastInDim S64 ![] bcast_S_S64 main_cst
  let main_v2 : IVec S64 1 := cmpf .olt main_v0 main_v1
  let main_v3 : FVec F S64 .f32 := Host.absf main_arg4
  let main_cst_0 : FVec F S_ .f32 := constant S_ .f32 0x7F800000#32
  let main_v4 : FVec F S64 .f32 := broadcastInDim S64 ![] bcast_S_S64 main_cst_0
  let main_v5 : IVec S64 1 := cmpf .olt main_v3 main_v4
  let main_cst_1 : FVec F S_ .f32 := constant S_ .f32 0x7F800000#32
  let main_v6 : FVec F S8 .f32 := broadcastInDim S8 ![] bcast_S_S8 main_cst_1
  let main_v7 : IVec S8 1 := cmpf .olt main_arg5 main_v6
  (main_v2, main_v5, main_v7)
-- ==== Kernel.lean ====
abbrev S4x4096x512 : Shape := ⟨3, ![4, 4096, 512]⟩
abbrev S4x4096x128 : Shape := ⟨3, ![4, 4096, 128]⟩
abbrev S64 : Shape := ⟨1, ![64]⟩
abbrev S8 : Shape := ⟨1, ![8]⟩
abbrev S_ : Shape := ⟨0, ![]⟩
abbrev S4096 : Shape := ⟨1, ![4096]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S4096x56 : Shape := ⟨2, ![4096, 56]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S2x64 : Shape := ⟨2, ![2, 64]⟩
abbrev S128 : Shape := ⟨1, ![128]⟩
abbrev S1x128 : Shape := ⟨2, ![1, 128]⟩
abbrev S8x1 : Shape := ⟨2, ![8, 1]⟩
abbrev S8x128 : Shape := ⟨2, ![8, 128]⟩
abbrev S1x1024x512 : Shape := ⟨3, ![1, 1024, 512]⟩
abbrev S1x1024x128 : Shape := ⟨3, ![1, 1024, 128]⟩
abbrev S1x128x128 : Shape := ⟨3, ![1, 128, 128]⟩
abbrev S1024x128 : Shape := ⟨2, ![1024, 128]⟩
abbrev S128x128 : Shape := ⟨2, ![128, 128]⟩
abbrev S1024x512 : Shape := ⟨2, ![1024, 512]⟩
abbrev S1024x64 : Shape := ⟨2, ![1024, 64]⟩
abbrev S1024 : Shape := ⟨1, ![1024]⟩
abbrev S1024x1 : Shape := ⟨2, ![1024, 1]⟩
abbrev S128x64 : Shape := ⟨2, ![128, 64]⟩
abbrev S128x1 : Shape := ⟨2, ![128, 1]⟩
abbrev S512x128 : Shape := ⟨2, ![512, 128]⟩
abbrev S128x512 : Shape := ⟨2, ![128, 512]⟩
abbrev S512x64 : Shape := ⟨2, ![512, 64]⟩
abbrev S1x1 : Shape := ⟨2, ![1, 1]⟩
abbrev S512x1 : Shape := ⟨2, ![512, 1]⟩
abbrev S1x128x512 : Shape := ⟨3, ![1, 128, 512]⟩

abbrev nBuf : Space → Nat
  | .hbm => 58
  | .vmem => 27
  | .smem => 0
  | _ => 0

abbrev bufTy : (tb : Table) → Fin (tcTables nBuf tb) → BufTy
  | .hbm, ⟨0, _⟩ => ⟨S4x4096x512, .f32⟩
  | .hbm, ⟨1, _⟩ => ⟨S4x4096x128, .f32⟩
  | .hbm, ⟨2, _⟩ => ⟨S4x4096x128, .f32⟩
  | .hbm, ⟨3, _⟩ => ⟨S64, .f32⟩
  | .hbm, ⟨4, _⟩ => ⟨S64, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S4096, .i32⟩
  | .hbm, ⟨18, _⟩ => ⟨S4096, .f32⟩
  | .hbm, ⟨19, _⟩ => ⟨S4096x1, .f32⟩
  | .hbm, ⟨20, _⟩ => ⟨S1x8, .f32⟩
  | .hbm, ⟨21, _⟩ => ⟨S4096x8, .f32⟩
  | .hbm, ⟨22, _⟩ => ⟨S4096x8, .f32⟩
  | .hbm, ⟨23, _⟩ => ⟨S4096x8, .f32⟩
  | .hbm, ⟨24, _⟩ => ⟨S4096x8, .f32⟩
  | .hbm, ⟨25, _⟩ => ⟨S4096x8, .f32⟩
  | .hbm, ⟨26, _⟩ => ⟨S_, .f32⟩
  | .hbm, ⟨27, _⟩ => ⟨S4096x48, .f32⟩
  | .hbm, ⟨28, _⟩ => ⟨S4096x64, .f32⟩
  | .hbm, ⟨29, _⟩ => ⟨S4096x8, .f32⟩
  | .hbm, ⟨30, _⟩ => ⟨S_, .f32⟩
  | .hbm, ⟨31, _⟩ => ⟨S4096x56, .f32⟩
  | .hbm, ⟨32, _⟩ => ⟨S4096x64, .f32⟩
  | .hbm, ⟨33, _⟩ => ⟨S_, .f32⟩
  | .hbm, ⟨34, _⟩ => ⟨S4096x8, .f32⟩
  | .hbm, ⟨35, _⟩ => ⟨S_, .f32⟩
  | .hbm, ⟨36, _⟩ => ⟨S4096x48, .f32⟩
  | .hbm, ⟨37, _⟩ => ⟨S4096x64, .f32⟩
  | .hbm, ⟨38, _⟩ => ⟨S1x4096x1x64, .f32⟩
  | .hbm, ⟨39, _⟩ => ⟨S1x4096x2x64, .f32⟩
  | .hbm, ⟨40, _⟩ => ⟨S4096x128, .f32⟩
  | .hbm, ⟨41, _⟩ => ⟨S1x4096x1x64, .f32⟩
  | .hbm, ⟨42, _⟩ => ⟨S1x4096x2x64, .f32⟩
  | .hbm, ⟨43, _⟩ => ⟨S4096x128, .f32⟩
  | .hbm, ⟨44, _⟩ => ⟨S1x4096x1x64, .f32⟩
  | .hbm, ⟨45, _⟩ => ⟨S1x4096x2x64, .f32⟩
  | .hbm, ⟨46, _⟩ => ⟨S4096x128, .f32⟩
  | .hbm, ⟨47, _⟩ => ⟨S1x64, .f32⟩
  | .hbm, ⟨48, _⟩ => ⟨S8x64, .f32⟩
  | .hbm, ⟨49, _⟩ => ⟨S512, .f32⟩
  | .hbm, ⟨50, _⟩ => ⟨S1x512, .f32⟩
  | .hbm, ⟨51, _⟩ => ⟨S1x64, .f32⟩
  | .hbm, ⟨52, _⟩ => ⟨S2x64, .f32⟩
  | .hbm, ⟨53, _⟩ => ⟨S128, .f32⟩
  | .hbm, ⟨54, _⟩ => ⟨S1x128, .f32⟩
  | .hbm, ⟨55, _⟩ => ⟨S8x1, .f32⟩
  | .hbm, ⟨56, _⟩ => ⟨S8x128, .f32⟩
  | .hbm, ⟨57, _⟩ => ⟨S4x4096x512, .bf16⟩
  | .local _ .vmem, ⟨0, _⟩ => ⟨S1x1024x512, .f32⟩
  | .local _ .vmem, ⟨1, _⟩ => ⟨S1x1024x512, .f32⟩
  | .local _ .vmem, ⟨2, _⟩ => ⟨S1x1024x128, .f32⟩
  | .local _ .vmem, ⟨3, _⟩ => ⟨S1x1024x128, .f32⟩
  | .local _ .vmem, ⟨4, _⟩ => ⟨S1x128x128, .f32⟩
  | .local _ .vmem, ⟨5, _⟩ => ⟨S1x128x128, .f32⟩
  | .local _ .vmem, ⟨6, _⟩ => ⟨S1x1024x128, .f32⟩
  | .local _ .vmem, ⟨7, _⟩ => ⟨S1x1024x128, .f32⟩
  | .local _ .vmem, ⟨8, _⟩ => ⟨S1x128x128, .f32⟩
  | .local _ .vmem, ⟨9, _⟩ => ⟨S1x128x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S128x128, .f32⟩
  | .local _ .vmem, ⟨22, _⟩ => ⟨S1x512, .f32⟩
  | .local _ .vmem, ⟨23, _⟩ => ⟨S1x128, .f32⟩
  | .local _ .vmem, ⟨24, _⟩ => ⟨S8x128, .f32⟩
  | .local _ .vmem, ⟨25, _⟩ => ⟨S1x1024x512, .bf16⟩
  | .local _ .vmem, ⟨26, _⟩ => ⟨S1x1024x512, .bf16⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg14_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== ReferenceIdeal.lean ====
abbrev S4x4096x512 : Shape := ⟨3, ![4, 4096, 512]⟩
abbrev S4x4096x128 : Shape := ⟨3, ![4, 4096, 128]⟩
abbrev S64 : Shape := ⟨1, ![64]⟩
abbrev S8 : Shape := ⟨1, ![8]⟩
abbrev S4096 : Shape := ⟨1, ![4096]⟩
abbrev S4x4096x8x64 : Shape := ⟨4, ![4, 4096, 8, 64]⟩
abbrev S4x4096x2x64 : Shape := ⟨4, ![4, 4096, 2, 64]⟩
abbrev S_ : Shape := ⟨0, ![]⟩
abbrev S4x4096x8 : Shape := ⟨3, ![4, 4096, 8]⟩
abbrev S4x4096x8x1 : Shape := ⟨4, ![4, 4096, 8, 1]⟩
abbrev S1x1x1x64 : Shape := ⟨4, ![1, 1, 1, 64]⟩
abbrev S4096x1 : Shape := ⟨2, ![4096, 1]⟩
abbrev S1x8 : Shape := ⟨2, ![1, 8]⟩
abbrev S4096x8 : Shape := ⟨2, ![4096, 8]⟩
abbrev S1x4096x1x8 : Shape := ⟨4, ![1, 4096, 1, 8]⟩
abbrev S4x4096x8x16 : Shape := ⟨4, ![4, 4096, 8, 16]⟩
abbrev S4x4096x8x8 : Shape := ⟨4, ![4, 4096, 8, 8]⟩
abbrev S4x4096x8x48 : Shape := ⟨4, ![4, 4096, 8, 48]⟩
abbrev S4x4096x2 : Shape := ⟨3, ![4, 4096, 2]⟩
abbrev S4x4096x2x1 : Shape := ⟨4, ![4, 4096, 2, 1]⟩
abbrev S4x4096x2x16 : Shape := ⟨4, ![4, 4096, 2, 16]⟩
abbrev S4x4096x2x8 : Shape := ⟨4, ![4, 4096, 2, 8]⟩
abbrev S4x4096x2x48 : Shape := ⟨4, ![4, 4096, 2, 48]⟩
abbrev S4x32x128x2x4x64 : Shape := ⟨6, ![4, 32, 128, 2, 4, 64]⟩
abbrev S4x32x128x2x64 : Shape := ⟨5, ![4, 32, 128, 2, 64]⟩
abbrev S4x33x128x2x64 : Shape := ⟨5, ![4, 33, 128, 2, 64]⟩
abbrev S4x32x256x2x64 : Shape := ⟨5, ![4, 32, 256, 2, 64]⟩
abbrev S4x32x2x256x128x4 : Shape := ⟨6, ![4, 32, 2, 256, 128, 4]⟩
abbrev S4x32x2x4x128x256 : Shape := ⟨6, ![4, 32, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S1x32x1x1x128x256 : Shape := ⟨6, ![1, 32, 1, 1, 128, 256]⟩
abbrev S1x1x2x4x1x1 : Shape := ⟨6, ![1, 1, 2, 4, 1, 1]⟩
abbrev S4x32x2x4x128 : Shape := ⟨5, ![4, 32, 2, 4, 128]⟩
abbrev S4x32x2x4x128x1 : Shape := ⟨6, ![4, 32, 2, 4, 128, 1]⟩
abbrev S4x32x2x64x4x128 : Shape := ⟨6, ![4, 32, 2, 64, 4, 128]⟩

abbrev nBuf : Space → Nat
  | .hbm => 199
  | .vmem => 0
  | .smem => 0
  | _ => 0

abbrev hbmTy0_0 (i : Nat) : BufTy := match i % 128 with
  | 0 => ⟨S4x4096x512, .f32⟩
  | 1 => ⟨S4x4096x128, .f32⟩
  | 2 => ⟨S4x4096x128, .f32⟩
  | 3 => ⟨S64, .f32⟩
  | 4 => ⟨S64, .f32⟩
  | 5 => ⟨S8, .f32⟩
  | 6 => ⟨S4096, .i32⟩
  | 7 => ⟨S4x4096x8x64, .f32⟩
  | 8 => ⟨S4x4096x2x64, .f32⟩
  | 9 => ⟨S4x4096x2x64, .f32⟩
  | 10 => ⟨S4x4096x8x64, .f32⟩
  | 11 => ⟨S_, .f32⟩
  | 12 => ⟨S4x4096x8, .f32⟩
  | 13 => ⟨S4x4096x8x1, .f32⟩
  | 14 => ⟨S_, .f32⟩
  | 15 => ⟨S4x4096x8x1, .f32⟩
  | 16 => ⟨S4x4096x8x1, .f32⟩
  | 17 => ⟨S_, .f32⟩
  | 18 => ⟨S4x4096x8x1, .f32⟩
  | 19 => ⟨S4x4096x8x1, .f32⟩
  | 20 => ⟨S4x4096x8x1, .f32⟩
  | 21 => ⟨S4x4096x8x64, .f32⟩
  | 22 => ⟨S4x4096x8x64, .f32⟩
  | 23 => ⟨S1x1x1x64, .f32⟩
  | 24 => ⟨S4x4096x8x64, .f32⟩
  | 25 => ⟨S4x4096x8x64, .f32⟩
  | 26 => ⟨S8, .f32⟩
  | 27 => ⟨S_, .f32⟩
  | 28 => ⟨S8, .f32⟩
  | 29 => ⟨S8, .f32⟩
  | 30 => ⟨S_, .f32⟩
  | 31 => ⟨S8, .f32⟩
  | 32 => ⟨S8, .f32⟩
  | 33 => ⟨S8, .f32⟩
  | 34 => ⟨S_, .f32⟩
  | 35 => ⟨S8, .f32⟩
  | 36 => ⟨S8, .f32⟩
  | 37 => ⟨S4096, .f32⟩
  | 38 => ⟨S4096x1, .f32⟩
  | 39 => ⟨S1x8, .f32⟩
  | 40 => ⟨S4096x8, .f32⟩
  | 41 => ⟨S4096x8, .f32⟩
  | 42 => ⟨S4096x8, .f32⟩
  | 43 => ⟨S4096x8, .f32⟩
  | 44 => ⟨S1x4096x1x8, .f32⟩
  | 45 => ⟨S4096x8, .f32⟩
  | 46 => ⟨S1x4096x1x8, .f32⟩
  | 47 => ⟨S4x4096x8x16, .f32⟩
  | 48 => ⟨S4x4096x8x8, .f32⟩
  | 49 => ⟨S4x4096x8x8, .f32⟩
  | 50 => ⟨S4x4096x8x8, .f32⟩
  | 51 => ⟨S4x4096x8x8, .f32⟩
  | 52 => ⟨S4x4096x8x8, .f32⟩
  | 53 => ⟨S4x4096x8x8, .f32⟩
  | 54 => ⟨S4x4096x8x8, .f32⟩
  | 55 => ⟨S4x4096x8x8, .f32⟩
  | 56 => ⟨S4x4096x8x8, .f32⟩
  | 57 => ⟨S4x4096x8x8, .f32⟩
  | 58 => ⟨S4x4096x8x8, .f32⟩
  | 59 => ⟨S4x4096x8x8, .f32⟩
  | 60 => ⟨S4x4096x8x16, .f32⟩
  | 61 => ⟨S4x4096x8x48, .f32⟩
  | 62 => ⟨S4x4096x8x64, .f32⟩
  | 63 => ⟨S4x4096x2x64, .f32⟩
  | 64 => ⟨S_, .f32⟩
  | 65 => ⟨S4x4096x2, .f32⟩
  | 66 => ⟨S4x4096x2x1, .f32⟩
  | 67 => ⟨S_, .f32⟩
  | 68 => ⟨S4x4096x2x1, .f32⟩
  | 69 => ⟨S4x4096x2x1, .f32⟩
  | 70 => ⟨S_, .f32⟩
  | 71 => ⟨S4x4096x2x1, .f32⟩
  | 72 => ⟨S4x4096x2x1, .f32⟩
  | 73 => ⟨S4x4096x2x1, .f32⟩
  | 74 => ⟨S4x4096x2x64, .f32⟩
  | 75 => ⟨S4x4096x2x64, .f32⟩
  | 76 => ⟨S1x1x1x64, .f32⟩
  | 77 => ⟨S4x4096x2x64, .f32⟩
  | 78 => ⟨S4x4096x2x64, .f32⟩
  | 79 => ⟨S8, .f32⟩
  | 80 => ⟨S_, .f32⟩
  | 81 => ⟨S8, .f32⟩
  | 82 => ⟨S8, .f32⟩
  | 83 => ⟨S_, .f32⟩
  | 84 => ⟨S8, .f32⟩
  | 85 => ⟨S8, .f32⟩
  | 86 => ⟨S8, .f32⟩
  | 87 => ⟨S_, .f32⟩
  | 88 => ⟨S8, .f32⟩
  | 89 => ⟨S8, .f32⟩
  | 90 => ⟨S4096, .f32⟩
  | 91 => ⟨S4096x1, .f32⟩
  | 92 => ⟨S1x8, .f32⟩
  | 93 => ⟨S4096x8, .f32⟩
  | 94 => ⟨S4096x8, .f32⟩
  | 95 => ⟨S4096x8, .f32⟩
  | 96 => ⟨S4096x8, .f32⟩
  | 97 => ⟨S1x4096x1x8, .f32⟩
  | 98 => ⟨S4096x8, .f32⟩
  | 99 => ⟨S1x4096x1x8, .f32⟩
  | 100 => ⟨S4x4096x2x16, .f32⟩
  | 101 => ⟨S4x4096x2x8, .f32⟩
  | 102 => ⟨S4x4096x2x8, .f32⟩
  | 103 => ⟨S4x4096x2x8, .f32⟩
  | 104 => ⟨S4x4096x2x8, .f32⟩
  | 105 => ⟨S4x4096x2x8, .f32⟩
  | 106 => ⟨S4x4096x2x8, .f32⟩
  | 107 => ⟨S4x4096x2x8, .f32⟩
  | 108 => ⟨S4x4096x2x8, .f32⟩
  | 109 => ⟨S4x4096x2x8, .f32⟩
  | 110 => ⟨S4x4096x2x8, .f32⟩
  | 111 => ⟨S4x4096x2x8, .f32⟩
  | 112 => ⟨S4x4096x2x8, .f32⟩
  | 113 => ⟨S4x4096x2x16, .f32⟩
  | 114 => ⟨S4x4096x2x48, .f32⟩
  | 115 => ⟨S4x4096x2x64, .f32⟩
  | 116 => ⟨S4x32x128x2x4x64, .f32⟩
  | 117 => ⟨S4x32x128x2x64, .f32⟩
  | 118 => ⟨S_, .i32⟩
  | 119 => ⟨S_, .f32⟩
  | 120 => ⟨S4x33x128x2x64, .f32⟩
  | 121 => ⟨S4x32x128x2x64, .f32⟩
  | 122 => ⟨S4x32x256x2x64, .f32⟩
  | 123 => ⟨S4x32x128x2x64, .f32⟩
  | 124 => ⟨S_, .i32⟩
  | 125 => ⟨S_, .f32⟩
  | 126 => ⟨S4x33x128x2x64, .f32⟩
  | 127 => ⟨S4x32x128x2x64, .f32⟩
  | _ => ⟨S4x4096x512, .f32⟩

abbrev hbmTy0_1 (i : Nat) : BufTy := match i % 128 with
  | 0 => ⟨S4x32x256x2x64, .f32⟩
  | 1 => ⟨S4x32x2x256x128x4, .f32⟩
  | 2 => ⟨S4x32x2x4x128x256, .f32⟩
  | 3 => ⟨S_, .f32⟩
  | 4 => ⟨S4x32x2x4x128x256, .f32⟩
  | 5 => ⟨S4x32x2x4x128x256, .f32⟩
  | 6 => ⟨S128, .i32⟩
  | 7 => ⟨S128x1, .i32⟩
  | 8 => ⟨S256, .i32⟩
  | 9 => ⟨S1x256, .i32⟩
  | 10 => ⟨S_, .i32⟩
  | 11 => ⟨S128x1, .i32⟩
  | 12 => ⟨S128x1, .i32⟩
  | 13 => ⟨S128x256, .i32⟩
  | 14 => ⟨S128x256, .i32⟩
  | 15 => ⟨S128x256, .i32⟩
  | 16 => ⟨S32, .i32⟩
  | 17 => ⟨S32x1x1, .i32⟩
  | 18 => ⟨S_, .i32⟩
  | 19 => ⟨S32x1x1, .i32⟩
  | 20 => ⟨S32x1x1, .i32⟩
  | 21 => ⟨S_, .i32⟩
  | 22 => ⟨S32x1x1, .i32⟩
  | 23 => ⟨S32x1x1, .i32⟩
  | 24 => ⟨S1x1x256, .i32⟩
  | 25 => ⟨S32x1x256, .i32⟩
  | 26 => ⟨S32x1x256, .i32⟩
  | 27 => ⟨S32x1x256, .i32⟩
  | 28 => ⟨S_, .i32⟩
  | 29 => ⟨S128x256, .i32⟩
  | 30 => ⟨S128x256, .i1⟩
  | 31 => ⟨S1x128x256, .i1⟩
  | 32 => ⟨S_, .i32⟩
  | 33 => ⟨S128x256, .i32⟩
  | 34 => ⟨S128x256, .i1⟩
  | 35 => ⟨S1x128x256, .i1⟩
  | 36 => ⟨S1x128x256, .i1⟩
  | 37 => ⟨S_, .i32⟩
  | 38 => ⟨S32x1x256, .i32⟩
  | 39 => ⟨S32x1x256, .i1⟩
  | 40 => ⟨S32x128x256, .i1⟩
  | 41 => ⟨S32x128x256, .i1⟩
  | 42 => ⟨S32x128x256, .i1⟩
  | 43 => ⟨S1x32x1x1x128x256, .i1⟩
  | 44 => ⟨S_, .f32⟩
  | 45 => ⟨S_, .f32⟩
  | 46 => ⟨S4x32x2x4x128x256, .i1⟩
  | 47 => ⟨S4x32x2x4x128x256, .f32⟩
  | 48 => ⟨S4x32x2x4x128x256, .f32⟩
  | 49 => ⟨S1x1x2x4x1x1, .f32⟩
  | 50 => ⟨S_, .f32⟩
  | 51 => ⟨S4x32x2x4x128, .f32⟩
  | 52 => ⟨S4x32x2x4x128x1, .f32⟩
  | 53 => ⟨S4x32x2x4x128x1, .f32⟩
  | 54 => ⟨S4x32x2x4x128x1, .f32⟩
  | 55 => ⟨S4x32x2x4x128x256, .f32⟩
  | 56 => ⟨S4x32x2x4x128x256, .f32⟩
  | 57 => ⟨S4x32x2x4x128x256, .f32⟩
  | 58 => ⟨S_, .f32⟩
  | 59 => ⟨S4x32x2x4x128, .f32⟩
  | 60 => ⟨S4x32x2x4x128x1, .f32⟩
  | 61 => ⟨S4x32x2x4x128x1, .f32⟩
  | 62 => ⟨S4x32x2x4x128x1, .f32⟩
  | 63 => ⟨S4x32x2x4x128x1, .f32⟩
  | 64 => ⟨S4x32x2x4x128x1, .f32⟩
  | 65 => ⟨S4x32x2x4x128x256, .f32⟩
  | 66 => ⟨S4x32x2x4x128x256, .f32⟩
  | 67 => ⟨S4x32x2x64x4x128, .f32⟩
  | 68 => ⟨S4x32x128x2x4x64, .f32⟩
  | 69 => ⟨S4x4096x512, .f32⟩
  | 70 => ⟨S4x4096x512, .bf16⟩
  | _ => ⟨S4x4096x512, .f32⟩

abbrev hbmTy (i : Nat) : BufTy := match i / 128 with
  | 0 => hbmTy0_0 i
  | 1 => hbmTy0_1 i
  | _ => ⟨S4x4096x512, .f32⟩

abbrev bufTy : (tb : Table) → Fin (tcTables nBuf tb) → BufTy
  | .hbm, ⟨i, _⟩ => hbmTy i
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_5 : Ref sig .tc := ⟨.hbm, 64, rfl⟩
abbrev main_v52 : Ref sig .tc := ⟨.hbm, 65, rfl⟩
abbrev main_v53 : Ref sig .tc := ⟨.hbm, 66, rfl⟩
abbrev main_cst_6 : Ref sig .tc := ⟨.hbm, 67, rfl⟩
abbrev main_v54 : Ref sig .tc := ⟨.hbm, 68, rfl⟩
abbrev main_v55 : Ref sig .tc := ⟨.hbm, 69, rfl⟩
abbrev main_cst_7 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_cst_8 : Ref sig .tc := ⟨.hbm, 80, rfl⟩
abbrev main_v65 : Ref sig .tc := ⟨.hbm, 81, rfl⟩
abbrev main_v66 : Ref sig .tc := ⟨.hbm, 82, rfl⟩
abbrev main_cst_9 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_10 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_c : Ref sig .tc := ⟨.hbm, 118, rfl⟩
abbrev main_call0_v0 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_c_11 : Ref sig .tc := ⟨.hbm, 124, rfl⟩
abbrev main_call1_v0 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_cst_12 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_c_13 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_c_14 : Ref sig .tc := ⟨.hbm, 146, rfl⟩
abbrev main_v122 : Ref sig .tc := ⟨.hbm, 147, rfl⟩
abbrev main_v123 : Ref sig .tc := ⟨.hbm, 148, rfl⟩
abbrev main_c_15 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_c_16 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_c_17 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_c_18 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_cst_19 : Ref sig .tc := ⟨.hbm, 172, rfl⟩
abbrev main_call2_v0 : Ref sig .tc := ⟨.hbm, 173, rfl⟩
abbrev main_call2_v1 : Ref sig .tc := ⟨.hbm, 174, rfl⟩
abbrev main_call2_v2 : Ref sig .tc := ⟨.hbm, 175, rfl⟩
abbrev main_v143 : Ref sig .tc := ⟨.hbm, 176, rfl⟩
abbrev main_v144 : Ref sig .tc := ⟨.hbm, 177, rfl⟩
abbrev main_cst_20 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_cst_21 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩

abbrev nD : Nat := 1
abbrev τ : Topo := Topo.v7x

variable {F : FTy → Type} [FloatOps F]
-- ==== Proj.lean ====
abbrev S4x4096x1024 : Shape := ⟨3, ![4, 4096, 1024]⟩
abbrev S1024 : Shape := ⟨1, ![1024]⟩
abbrev S1024x2824 : Shape := ⟨2, ![1024, 2824]⟩
abbrev S16384x1024 : Shape := ⟨2, ![16384, 1024]⟩
abbrev S_ : Shape := ⟨0, ![]⟩
abbrev S1024x2944 : Shape := ⟨2, ![1024, 2944]⟩
abbrev S1x1024 : Shape := ⟨2, ![1, 1024]⟩
abbrev S16384x512 : Shape := ⟨2, ![16384, 512]⟩
abbrev S16384x128 : Shape := ⟨2, ![16384, 128]⟩
abbrev S16384x1536 : Shape := ⟨2, ![16384, 1536]⟩
abbrev S512x1024 : Shape := ⟨2, ![512, 1024]⟩
abbrev S512x512 : Shape := ⟨2, ![512, 512]⟩
abbrev S512x128 : Shape := ⟨2, ![512, 128]⟩
abbrev S512x1536 : Shape := ⟨2, ![512, 1536]⟩
abbrev S512 : Shape := ⟨1, ![512]⟩
abbrev S512x1 : Shape := ⟨2, ![512, 1]⟩
abbrev S512x2944 : Shape := ⟨2, ![512, 2944]⟩

abbrev nBuf : Space → Nat
  | .hbm => 15
  | .vmem => 16
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x2824, .f32⟩
  | .hbm, ⟨3, _⟩ => ⟨S16384x1024, .f32⟩
  | .hbm, ⟨4, _⟩ => ⟨S_, .i32⟩
  | .hbm, ⟨5, _⟩ => ⟨S_, .f32⟩
  | .hbm, ⟨6, _⟩ => ⟨S1024x2944, .f32⟩
  | .hbm, ⟨7, _⟩ => ⟨S1024x2944, .bf16⟩
  | .hbm, ⟨8, _⟩ => ⟨S1x1024, .f32⟩
  | .hbm, ⟨9, _⟩ => ⟨S16384x512, .f32⟩
  | .hbm, ⟨10, _⟩ => ⟨S16384x128, .f32⟩
  | .hbm, ⟨11, _⟩ => ⟨S16384x128, .f32⟩
  | .hbm, ⟨12, _⟩ => ⟨S16384x1536, .f32⟩
  | .hbm, ⟨13, _⟩ => ⟨S16384x512, .f32⟩
  | .hbm, ⟨14, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2944, .bf16⟩
  | .local _ .vmem, ⟨4, _⟩ => ⟨S512x512, .f32⟩
  | .local _ .vmem, ⟨5, _⟩ => ⟨S512x512, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x1536, .f32⟩
  | .local _ .vmem, ⟨11, _⟩ => ⟨S512x1536, .f32⟩
  | .local _ .vmem, ⟨12, _⟩ => ⟨S512x512, .f32⟩
  | .local _ .vmem, ⟨13, _⟩ => ⟨S512x512, .f32⟩
  | .local _ .vmem, ⟨14, _⟩ => ⟨S512x128, .f32⟩
  | .local _ .vmem, ⟨15, _⟩ => ⟨S512x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev main_v4_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2944 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ProjRefIdeal.lean ====
abbrev S4x4096x1024 : Shape := ⟨3, ![4, 4096, 1024]⟩
abbrev S1024 : Shape := ⟨1, ![1024]⟩
abbrev S1024x2824 : Shape := ⟨2, ![1024, 2824]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2824 : Shape := ⟨3, ![4, 4096, 2824]⟩
abbrev S16384x2824 : Shape := ⟨2, ![16384, 2824]⟩
abbrev S16384x512 : Shape := ⟨2, ![16384, 512]⟩
abbrev S16384x128 : Shape := ⟨2, ![16384, 128]⟩
abbrev S16384x1536 : Shape := ⟨2, ![16384, 1536]⟩
abbrev S16384x4 : Shape := ⟨2, ![16384, 4]⟩
abbrev S16384x120 : Shape := ⟨2, ![16384, 120]⟩

abbrev nBuf : Space → Nat
  | .hbm => 31
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x2824, .f32⟩
  | .hbm, ⟨3, _⟩ => ⟨S4x4096x1024, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x1, .f32⟩
  | .hbm, ⟨14, _⟩ => ⟨S4x4096x1024, .f32⟩
  | .hbm, ⟨15, _⟩ => ⟨S4x4096x1024, .f32⟩
  | .hbm, ⟨16, _⟩ => ⟨S1x1x1024, .f32⟩
  | .hbm, ⟨17, _⟩ => ⟨S4x4096x1024, .f32⟩
  | .hbm, ⟨18, _⟩ => ⟨S4x4096x1024, .f32⟩
  | .hbm, ⟨19, _⟩ => ⟨S4x4096x2824, .f32⟩
  | .hbm, ⟨20, _⟩ => ⟨S16384x2824, .f32⟩
  | .hbm, ⟨21, _⟩ => ⟨S16384x512, .f32⟩
  | .hbm, ⟨22, _⟩ => ⟨S16384x128, .f32⟩
  | .hbm, ⟨23, _⟩ => ⟨S16384x128, .f32⟩
  | .hbm, ⟨24, _⟩ => ⟨S16384x1536, .f32⟩
  | .hbm, ⟨25, _⟩ => ⟨S16384x512, .f32⟩
  | .hbm, ⟨26, _⟩ => ⟨S16384x4, .f32⟩
  | .hbm, ⟨27, _⟩ => ⟨S16384x4, .f32⟩
  | .hbm, ⟨28, _⟩ => ⟨S_, .f32⟩
  | .hbm, ⟨29, _⟩ => ⟨S16384x120, .f32⟩
  | .hbm, ⟨30, _⟩ => ⟨S16384x128, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Mix.lean ====
abbrev S4x4096x512 : Shape := ⟨3, ![4, 4096, 512]⟩
abbrev S4x4096x1024 : Shape := ⟨3, ![4, 4096, 1024]⟩
abbrev S1024x1024 : Shape := ⟨2, ![1024, 1024]⟩
abbrev S1024 : Shape := ⟨1, ![1024]⟩
abbrev S1024x2048 : Shape := ⟨2, ![1024, 2048]⟩
abbrev S16384x512 : Shape := ⟨2, ![16384, 512]⟩
abbrev S16384x1024 : Shape := ⟨2, ![16384, 1024]⟩
abbrev S512x1024 : Shape := ⟨2, ![512, 1024]⟩
abbrev S1x1024 : Shape := ⟨2, ![1, 1024]⟩
abbrev S16384x2048 : Shape := ⟨2, ![16384, 2048]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩

abbrev nBuf : Space → Nat
  | .hbm => 20
  | .vmem => 16
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x1024, .f32⟩
  | .hbm, ⟨3, _⟩ => ⟨S1024x1024, .f32⟩
  | .hbm, ⟨4, _⟩ => ⟨S1024, .f32⟩
  | .hbm, ⟨5, _⟩ => ⟨S1024x2048, .f32⟩
  | .hbm, ⟨6, _⟩ => ⟨S16384x512, .f32⟩
  | .hbm, ⟨7, _⟩ => ⟨S16384x512, .bf16⟩
  | .hbm, ⟨8, _⟩ => ⟨S16384x512, .f32⟩
  | .hbm, ⟨9, _⟩ => ⟨S16384x512, .bf16⟩
  | .hbm, ⟨10, _⟩ => ⟨S16384x1024, .f32⟩
  | .hbm, ⟨11, _⟩ => ⟨S512x1024, .f32⟩
  | .hbm, ⟨12, _⟩ => ⟨S512x1024, .bf16⟩
  | .hbm, ⟨13, _⟩ => ⟨S512x1024, .f32⟩
  | .hbm, ⟨14, _⟩ => ⟨S512x1024, .bf16⟩
  | .hbm, ⟨15, _⟩ => ⟨S1024x2048, .bf16⟩
  | .hbm, ⟨16, _⟩ => ⟨S1x1024, .f32⟩
  | .hbm, ⟨17, _⟩ => ⟨S16384x1024, .f32⟩
  | .hbm, ⟨18, _⟩ => ⟨S16384x1024, .bf16⟩
  | .hbm, ⟨19, _⟩ => ⟨S16384x2048, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1024x2048, .bf16⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x2048, .f32⟩
  | .local _ .vmem, ⟨15, _⟩ => ⟨S512x2048, .f32⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MixRefIdeal.lean ====
abbrev S4x4096x512 : Shape := ⟨3, ![4, 4096, 512]⟩
abbrev S4x4096x1024 : Shape := ⟨3, ![4, 4096, 1024]⟩
abbrev S1024x1024 : Shape := ⟨2, ![1024, 1024]⟩
abbrev S1024 : Shape := ⟨1, ![1024]⟩
abbrev S1024x2048 : Shape := ⟨2, ![1024, 2048]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S16384x1024 : Shape := ⟨2, ![16384, 1024]⟩
abbrev S16384x2048 : Shape := ⟨2, ![16384, 2048]⟩

abbrev nBuf : Space → Nat
  | .hbm => 29
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x1024, .f32⟩
  | .hbm, ⟨3, _⟩ => ⟨S1024x1024, .f32⟩
  | .hbm, ⟨4, _⟩ => ⟨S1024, .f32⟩
  | .hbm, ⟨5, _⟩ => ⟨S1024x2048, .f32⟩
  | .hbm, ⟨6, _⟩ => ⟨S4x4096x1024, .f32⟩
  | .hbm, ⟨7, _⟩ => ⟨S4x4096x1024, .f32⟩
  | .hbm, ⟨8, _⟩ => ⟨S4x4096x1024, .f32⟩
  | .hbm, ⟨9, _⟩ => ⟨S4x4096x1024, .f32⟩
  | .hbm, ⟨10, _⟩ => ⟨S_, .f32⟩
  | .hbm, ⟨11, _⟩ => ⟨S4x4096, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S4x4096x1, .f32⟩
  | .hbm, ⟨20, _⟩ => ⟨S4x4096x1024, .f32⟩
  | .hbm, ⟨21, _⟩ => ⟨S4x4096x1024, .f32⟩
  | .hbm, ⟨22, _⟩ => ⟨S1x1x1024, .f32⟩
  | .hbm, ⟨23, _⟩ => ⟨S4x4096x1024, .f32⟩
  | .hbm, ⟨24, _⟩ => ⟨S4x4096x1024, .f32⟩
  | .hbm, ⟨25, _⟩ => ⟨S16384x1024, .f32⟩
  | .hbm, ⟨26, _⟩ => ⟨S16384x1024, .f32⟩
  | .hbm, ⟨27, _⟩ => ⟨S16384x1024, .bf16⟩
  | .hbm, ⟨28, _⟩ => ⟨S16384x2048, .f32⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Proof.Vocab.lean ====
/-
  The attention kernel's intermediate values as terms of their own: normalised and rotated queries and keys, the two
  masks, one group of heads of one block of queries, and one block's rows. The eight stores of a grid point are these
  terms at the block's slices.
-/
module

public import proofs.«01_k».proof.Proof.Gen.KernelIdeal.Frame

@[expose] public section

set_option maxRecDepth 16384
set_option synthInstance.maxSize 4096

noncomputable section

namespace Cert.KernelIdeal.Att

open Idealize.ShloMosaic Idealize.SL.Sem Cert.KernelIdeal Cert.KernelIdeal.Gen

variable {F : FTy → Type} [FloatOps F]

/-- The reciprocal root mean square of each row, along the row's 64 lanes. -/
def rstd1024 (y : FVec F S1024x64 .f32) : FVec F S1024x64 .f32 :=
  broadcastTo S1024x64 (shapeCast S1024x1 (rsqrt (addf (divf (shapeCast S1024x1
    (multiReduction .add [1] S1024 y 0x00000000#32 reduces_S1024x64_S1024 (.inl rfl) rfl) shapeCasts_S1024_S1024x1)
    (broadcast S1024x1 (Scalar.ofBits .f32 0x42800000#32))) (broadcast S1024x1 (Scalar.ofBits .f32 0x358637BD#32))))
    shapeCasts_S1024x1_S1024x1) broadcasts_S1024x1_S1024x64

/-- The reciprocal root mean square of each row, along the row's 64 lanes. -/
def rstd128 (y : FVec F S128x64 .f32) : FVec F S128x64 .f32 :=
  broadcastTo S128x64 (shapeCast S128x1 (rsqrt (addf (divf (shapeCast S128x1
    (multiReduction .add [1] S128 y 0x00000000#32 reduces_S128x64_S128 (.inl rfl) rfl) shapeCasts_S128_S128x1)
    (broadcast S128x1 (Scalar.ofBits .f32 0x42800000#32))) (broadcast S128x1 (Scalar.ofBits .f32 0x358637BD#32))))
    shapeCasts_S128x1_S128x1) broadcasts_S128x1_S128x64

/-- Rows normalised head by head and weighted, S1024x512. -/
def normQ (x : FVec F S1024x512 .f32) (wt : FVec F S1x512 .f32) : FVec F S1024x512 .f32 :=
  mulf (mulf x (concatenate S1024x512 1 [⟨S1024x64, rstd1024 (extractStridedSlice S1024x64 ![0, 0] (mulf x x) slices_S1024x512_o0_0_S1024x64)⟩, ⟨S1024x64, rstd1024 (extractStridedSlice S1024x64 ![0, 64] (mulf x x) slices_S1024x512_o0_64_S1024x64)⟩, ⟨S1024x64, rstd1024 (extractStridedSlice S1024x64 ![0, 128] (mulf x x) slices_S1024x512_o0_128_S1024x64)⟩, ⟨S1024x64, rstd1024 (extractStridedSlice S1024x64 ![0, 192] (mulf x x) slices_S1024x512_o0_192_S1024x64)⟩, ⟨S1024x64, rstd1024 (extractStridedSlice S1024x64 ![0, 256] (mulf x x) slices_S1024x512_o0_256_S1024x64)⟩, ⟨S1024x64, rstd1024 (extractStridedSlice S1024x64 ![0, 320] (mulf x x) slices_S1024x512_o0_320_S1024x64)⟩, ⟨S1024x64, rstd1024 (extractStridedSlice S1024x64 ![0, 384] (mulf x x) slices_S1024x512_o0_384_S1024x64)⟩, ⟨S1024x64, rstd1024 (extractStridedSlice S1024x64 ![0, 448] (mulf x x) slices_S1024x512_o0_448_S1024x64)⟩] concatenates_S1024x64_S1024x64_S1024x64_S1024x64_S1024x64_S1024x64_S1024x64_S1024x64_S1024x512_d1))
    (broadcastTo S1024x512 wt broadcasts_S1x512_S1024x512)

/-- The rotary embedding of S1024x512 by its two rolls along the lanes. -/
def ropeQ (y c sm sp : FVec F S1024x512 .f32) : FVec F S1024x512 .f32 :=
  addf (addf (mulf y c) (mulf (dynamicRotate 1 504#32 none y rotates_S1024x512_d1) sm))
    (mulf (dynamicRotate 1 8#32 none y rotates_S1024x512_d1) sp)

/-- Rows normalised head by head and weighted, S1024x128. -/
def normK (x : FVec F S1024x128 .f32) (wt : FVec F S1x128 .f32) : FVec F S1024x128 .f32 :=
  mulf (mulf x (concatenate S1024x128 1 [⟨S1024x64, rstd1024 (extractStridedSlice S1024x64 ![0, 0] (mulf x x) slices_S1024x128_o0_0_S1024x64)⟩, ⟨S1024x64, rstd1024 (extractStridedSlice S1024x64 ![0, 64] (mulf x x) slices_S1024x128_o0_64_S1024x64)⟩] concatenates_S1024x64_S1024x64_S1024x128_d1))
    (broadcastTo S1024x128 wt broadcasts_S1x128_S1024x128)

/-- The rotary embedding of S1024x128 by its two rolls along the lanes. -/
def ropeK (y c sm sp : FVec F S1024x128 .f32) : FVec F S1024x128 .f32 :=
  addf (addf (mulf y c) (mulf (dynamicRotate 1 120#32 none y rotates_S1024x128_d1) sm))
    (mulf (dynamicRotate 1 8#32 none y rotates_S1024x128_d1) sp)

/-- Rows normalised head by head and weighted, S128x128. -/
def normP (x : FVec F S128x128 .f32) (wt : FVec F S1x128 .f32) : FVec F S128x128 .f32 :=
  mulf (mulf x (concatenate S128x128 1 [⟨S128x64, rstd128 (extractStridedSlice S128x64 ![0, 0] (mulf x x) slices_S128x128_o0_0_S128x64)⟩, ⟨S128x64, rstd128 (extractStridedSlice S128x64 ![0, 64] (mulf x x) slices_S128x128_o0_64_S128x64)⟩] concatenates_S128x64_S128x64_S128x128_d1))
    (broadcastTo S128x128 wt broadcasts_S1x128_S128x128)

/-- The rotary embedding of S128x128 by its two rolls along the lanes. -/
def ropeP (y c sm sp : FVec F S128x128 .f32) : FVec F S128x128 .f32 :=
  addf (addf (mulf y c) (mulf (dynamicRotate 1 120#32 none y rotates_S128x128_d1) sm))
    (mulf (dynamicRotate 1 8#32 none y rotates_S128x128_d1) sp)

/-- A table tiled over the four pairs of heads. -/
def wide (x : FVec F S1024x128 .f32) : FVec F S1024x512 .f32 :=
  concatenate S1024x512 1 [⟨S1024x128, x⟩, ⟨S1024x128, x⟩, ⟨S1024x128, x⟩, ⟨S1024x128, x⟩] concatenates_S1024x128_S1024x128_S1024x128_S1024x128_S1024x512_d1

/-- The position of a row's query in its block. -/
abbrev qpos : IVec S512x128 32 := k0_pay36

/-- The position of a key in its block. -/
def kpos : IVec S512x128 32 := iota .tc S512x128 32 [1] iota_S512x128_d1_w32

/-- Keys of the query's own block that it may read. -/
def maskC : IVec S512x128 1 := cmpi .sle kpos qpos

/-- Keys of the block before that the window still reaches. -/
def maskP : IVec S512x128 1 := cmpi .sgt kpos qpos

/-- The same at a step's first block, where there may be no block before. -/
def maskP0 (a : BitVec 32) : IVec S512x128 1 :=
  andi maskP (broadcast S512x128 (Scalar.cmpi .sgt a 0#32))

/-- Scaled and masked scores of a group's rows against one block of keys. -/
def score (mk : IVec S512x128 1) (qg : FVec F S512x64 .f32) (k : FVec F S128x64 .f32) : FVec F S512x128 .f32 :=
  select mk (mulf (matmul dot_S512x64_S128x64_S512x128_1_1_0_0_n_n none (truncf .bf16 qg bitsLt_bf16_f32)
      (truncf .bf16 k bitsLt_bf16_f32) (constant S512x128 .f32 0x00000000#32))
    (broadcast S512x128 (Scalar.ofBits .f32 0x3E000000#32))) (broadcast S512x128 (Scalar.ofBits .f32 0xFF800000#32))

/-- The largest entry of each row. -/
def rowMax (s : FVec F S512x128 .f32) : FVec F S512x1 .f32 :=
  shapeCast S512x1 (multiReduction .maximumf [1] S512 s 0xFF800000#32 reduces_S512x128_S512 (.inl rfl) rfl) shapeCasts_S512_S512x1

/-- The sum of each row. -/
def rowSum (s : FVec F S512x128 .f32) : FVec F S512x1 .f32 :=
  shapeCast S512x1 (multiReduction .add [1] S512 s 0x00000000#32 reduces_S512x128_S512 (.inl rfl) rfl) shapeCasts_S512_S512x1

/-- The exponentials of a row of scores less the row's maximum. -/
def expo (s : FVec F S512x128 .f32) (mx : FVec F S512x1 .f32) : FVec F S512x128 .f32 :=
  exp (subf s (broadcastTo S512x128 mx broadcasts_S512x1_S512x128))

/-- Weights times one block of values. -/
def pv (p : FVec F S512x128 .f32) (v : FVec F S128x64 .f32) : FVec F S512x64 .f32 :=
  matmul dot_S512x128_S128x64_S512x64_1_0_0_1_n_n none (truncf .bf16 p bitsLt_bf16_f32) (truncf .bf16 v bitsLt_bf16_f32)
    (constant S512x64 .f32 0x00000000#32)

/-- Two blocks of scores and the sinks give the group's rows of the result. -/
def soft (sc sp : FVec F S512x128 .f32) (sink : FVec F S512x1 .f32) (vc vp : FVec F S128x64 .f32) : FVec F S512x64 .f32 :=
  divf (addf (pv (expo sc (maximumf (maximumf (rowMax sc) (rowMax sp)) sink)) vc)
      (pv (expo sp (maximumf (maximumf (rowMax sc) (rowMax sp)) sink)) vp))
    (broadcastTo S512x64 (addf (addf (rowSum (expo sc (maximumf (maximumf (rowMax sc) (rowMax sp)) sink)))
      (rowSum (expo sp (maximumf (maximumf (rowMax sc) (rowMax sp)) sink))))
      (exp (subf sink (maximumf (maximumf (rowMax sc) (rowMax sp)) sink)))) broadcasts_S512x1_S512x64)

/-- A head's sink along its 128 rows. -/
def sinkRows (s : FVec F S1x1 .f32) : FVec F S128x1 .f32 :=
  broadcastTo S128x1 (shapeCast S1x1 (shapeCast S1x1 s shapeCasts_S1x1_S1x1) shapeCasts_S1x1_S1x1) broadcasts_S1x1_S128x1

/-- Four heads' sinks stacked. -/
def sinks4 (a b c d : FVec F S1x1 .f32) : FVec F S512x1 .f32 :=
  concatenate S512x1 0 [⟨S128x1, sinkRows a⟩, ⟨S128x1, sinkRows b⟩, ⟨S128x1, sinkRows c⟩, ⟨S128x1, sinkRows d⟩] concatenates_S128x1_S128x1_S128x1_S128x1_S512x1_d0

/-- Four heads of a block of queries stacked, group 0. -/
def stack0 (q : FVec F S128x512 .f32) : FVec F S512x64 .f32 :=
  concatenate S512x64 0 [⟨S128x64, extractStridedSlice S128x64 ![0, 0] q slices_S128x512_o0_0_S128x64⟩, ⟨S128x64, extractStridedSlice S128x64 ![0, 64] q slices_S128x512_o0_64_S128x64⟩, ⟨S128x64, extractStridedSlice S128x64 ![0, 128] q slices_S128x512_o0_128_S128x64⟩, ⟨S128x64, extractStridedSlice S128x64 ![0, 192] q slices_S128x512_o0_192_S128x64⟩] concatenates_S128x64_S128x64_S128x64_S128x64_S512x64_d0

/-- Group 0 of a block. -/
def group0 (mc mp : IVec S512x128 1) (q : FVec F S128x512 .f32) (kc kp vc vp : FVec F S128x128 .f32)
    (sink : FVec F S512x1 .f32) : FVec F S512x64 .f32 :=
  soft (score mc (stack0 q) (extractStridedSlice S128x64 ![0, 0] kc slices_S128x128_o0_0_S128x64))
    (score mp (stack0 q) (extractStridedSlice S128x64 ![0, 0] kp slices_S128x128_o0_0_S128x64)) sink
    (extractStridedSlice S128x64 ![0, 0] vc slices_S128x128_o0_0_S128x64)
    (extractStridedSlice S128x64 ![0, 0] vp slices_S128x128_o0_0_S128x64)

/-- Four heads of a block of queries stacked, group 1. -/
def stack1 (q : FVec F S128x512 .f32) : FVec F S512x64 .f32 :=
  concatenate S512x64 0 [⟨S128x64, extractStridedSlice S128x64 ![0, 256] q slices_S128x512_o0_256_S128x64⟩, ⟨S128x64, extractStridedSlice S128x64 ![0, 320] q slices_S128x512_o0_320_S128x64⟩, ⟨S128x64, extractStridedSlice S128x64 ![0, 384] q slices_S128x512_o0_384_S128x64⟩, ⟨S128x64, extractStridedSlice S128x64 ![0, 448] q slices_S128x512_o0_448_S128x64⟩] concatenates_S128x64_S128x64_S128x64_S128x64_S512x64_d0

/-- Group 1 of a block. -/
def group1 (mc mp : IVec S512x128 1) (q : FVec F S128x512 .f32) (kc kp vc vp : FVec F S128x128 .f32)
    (sink : FVec F S512x1 .f32) : FVec F S512x64 .f32 :=
  soft (score mc (stack1 q) (extractStridedSlice S128x64 ![0, 64] kc slices_S128x128_o0_64_S128x64))
    (score mp (stack1 q) (extractStridedSlice S128x64 ![0, 64] kp slices_S128x128_o0_64_S128x64)) sink
    (extractStridedSlice S128x64 ![0, 64] vc slices_S128x128_o0_64_S128x64)
    (extractStridedSlice S128x64 ![0, 64] vp slices_S128x128_o0_64_S128x64)

/-- The two groups' rows laid out head by head along the lanes and written as a block of the result. -/
def rows (a b : FVec F S512x64 .f32) : FVec F S1x128x512 .bf16 :=
  shapeCast S1x128x512 (truncf .bf16 (concatenate S128x512 1 [⟨S128x64, extractStridedSlice S128x64 ![0, 0] a slices_S512x64_o0_0_S128x64⟩, ⟨S128x64, extractStridedSlice S128x64 ![128, 0] a slices_S512x64_o128_0_S128x64⟩, ⟨S128x64, extractStridedSlice S128x64 ![256, 0] a slices_S512x64_o256_0_S128x64⟩, ⟨S128x64, extractStridedSlice S128x64 ![384, 0] a slices_S512x64_o384_0_S128x64⟩, ⟨S128x64, extractStridedSlice S128x64 ![0, 0] b slices_S512x64_o0_0_S128x64⟩, ⟨S128x64, extractStridedSlice S128x64 ![128, 0] b slices_S512x64_o128_0_S128x64⟩, ⟨S128x64, extractStridedSlice S128x64 ![256, 0] b slices_S512x64_o256_0_S128x64⟩, ⟨S128x64, extractStridedSlice S128x64 ![384, 0] b slices_S512x64_o384_0_S128x64⟩] concatenates_S128x64_S128x64_S128x64_S128x64_S128x64_S128x64_S128x64_S128x64_S128x512_d1) bitsLt_bf16_f32) shapeCasts_S128x512_S1x128x512

/-- One block of the result. -/
def block (mc mp : IVec S512x128 1) (q : FVec F S128x512 .f32) (kc kp vc vp : FVec F S128x128 .f32)
    (sa sb : FVec F S512x1 .f32) : FVec F S1x128x512 .bf16 :=
  rows (group0 mc mp q kc kp vc vp sa) (group1 mc mp q kc kp vc vp sb)

/-- The step's normalised and rotated queries. -/
def qs (x0 : Vec F S1x1024x512 .f32) (x5 x6 x7 : Vec F S1024x128 .f32) (x11 : Vec F S1x512 .f32) : FVec F S1024x512 .f32 :=
  ropeQ (normQ (shapeCast S1024x512 (View.ld x0 r0_0) shapeCasts_S1x1024x512_S1024x512) (shapeCast S1x512 (View.ld x11 r0_1) shapeCasts_S1x512_S1x512))
    (wide (shapeCast S1024x128 (View.ld x5 r0_2) shapeCasts_S1024x128_S1024x128))
    (wide (shapeCast S1024x128 (View.ld x6 r0_2) shapeCasts_S1024x128_S1024x128))
    (wide (shapeCast S1024x128 (View.ld x7 r0_2) shapeCasts_S1024x128_S1024x128))

/-- The step's normalised and rotated keys. -/
def ks (x1 : Vec F S1x1024x128 .f32) (x5 x6 x7 : Vec F S1024x128 .f32) (x12 : Vec F S1x128 .f32) : FVec F S1024x128 .f32 :=
  ropeK (normK (shapeCast S1024x128 (View.ld x1 r0_4) shapeCasts_S1x1024x128_S1024x128) (shapeCast S1x128 (View.ld x12 r0_3) shapeCasts_S1x128_S1x128))
    (shapeCast S1024x128 (View.ld x5 r0_2) shapeCasts_S1024x128_S1024x128)
    (shapeCast S1024x128 (View.ld x6 r0_2) shapeCasts_S1024x128_S1024x128)
    (shapeCast S1024x128 (View.ld x7 r0_2) shapeCasts_S1024x128_S1024x128)

/-- The keys of the block before the step. -/
def kb (x2 : Vec F S1x128x128 .f32) (x8 x9 x10 : Vec F S128x128 .f32) (x12 : Vec F S1x128 .f32) : FVec F S128x128 .f32 :=
  ropeP (normP (shapeCast S128x128 (View.ld x2 r0_5) shapeCasts_S1x128x128_S128x128) (shapeCast S1x128 (View.ld x12 r0_3) shapeCasts_S1x128_S1x128))
    (shapeCast S128x128 (View.ld x8 r0_6) shapeCasts_S128x128_S128x128)
    (shapeCast S128x128 (View.ld x9 r0_6) shapeCasts_S128x128_S128x128)
    (shapeCast S128x128 (View.ld x10 r0_6) shapeCasts_S128x128_S128x128)

/-- The step's values. -/
def vs (x3 : Vec F S1x1024x128 .f32) : FVec F S1024x128 .f32 :=
  shapeCast S1024x128 (View.ld x3 r0_4) shapeCasts_S1x1024x128_S1024x128

/-- The values of the block before the step. -/
def vb (x4 : Vec F S1x128x128 .f32) : FVec F S128x128 .f32 :=
  shapeCast S128x128 (View.ld x4 r0_5) shapeCasts_S1x128x128_S128x128

/-- The first group's sinks. -/
def sA (x13 : Vec F S8x128 .f32) : FVec F S512x1 .f32 :=
  sinks4 (View.ld x13 r0_7) (View.ld x13 r0_8) (View.ld x13 r0_9) (View.ld x13 r0_10)

/-- The second group's sinks. -/
def sB (x13 : Vec F S8x128 .f32) : FVec F S512x1 .f32 :=
  sinks4 (View.ld x13 r0_11) (View.ld x13 r0_12) (View.ld x13 r0_13) (View.ld x13 r0_14)

set_option maxHeartbeats 4000000 in
/-- What a grid point leaves in the result's buffer: eight stores of one block each. -/
theorem out_eq (i : grid0.Coords) (x0 : Vec F S1x1024x512 .f32) (x1 : Vec F S1x1024x128 .f32) (x2 : Vec F S1x128x128 .f32) (x3 : Vec F S1x1024x128 .f32) (x4 : Vec F S1x128x128 .f32) (x5 x6 x7 : Vec F S1024x128 .f32) (x8 x9 x10 : Vec F S128x128 .f32) (x11 : Vec F S1x512 .f32) (x12 : Vec F S1x128 .f32) (x13 : Vec F S8x128 .f32) :
    out0_14 i x0 x1 x2 x3 x4 x5 x6 x7 x8 x9 x10 x11 x12 x13 = View.canon [
      ⟨r0_22, block maskC maskP (extractStridedSlice S128x512 ![896, 0] (qs x0 x5 x6 x7 x11) slices_S1024x512_o896_0_S128x512) (extractStridedSlice S128x128 ![896, 0] (ks x1 x5 x6 x7 x12) slices_S1024x128_o896_0_S128x128) (extractStridedSlice S128x128 ![768, 0] (ks x1 x5 x6 x7 x12) slices_S1024x128_o768_0_S128x128) (extractStridedSlice S128x128 ![896, 0] (vs x3) slices_S1024x128_o896_0_S128x128) (extractStridedSlice S128x128 ![768, 0] (vs x3) slices_S1024x128_o768_0_S128x128) (sA x13) (sB x13)⟩,
      ⟨r0_21, block maskC maskP (extractStridedSlice S128x512 ![768, 0] (qs x0 x5 x6 x7 x11) slices_S1024x512_o768_0_S128x512) (extractStridedSlice S128x128 ![768, 0] (ks x1 x5 x6 x7 x12) slices_S1024x128_o768_0_S128x128) (extractStridedSlice S128x128 ![640, 0] (ks x1 x5 x6 x7 x12) slices_S1024x128_o640_0_S128x128) (extractStridedSlice S128x128 ![768, 0] (vs x3) slices_S1024x128_o768_0_S128x128) (extractStridedSlice S128x128 ![640, 0] (vs x3) slices_S1024x128_o640_0_S128x128) (sA x13) (sB x13)⟩,
      ⟨r0_20, block maskC maskP (extractStridedSlice S128x512 ![640, 0] (qs x0 x5 x6 x7 x11) slices_S1024x512_o640_0_S128x512) (extractStridedSlice S128x128 ![640, 0] (ks x1 x5 x6 x7 x12) slices_S1024x128_o640_0_S128x128) (extractStridedSlice S128x128 ![512, 0] (ks x1 x5 x6 x7 x12) slices_S1024x128_o512_0_S128x128) (extractStridedSlice S128x128 ![640, 0] (vs x3) slices_S1024x128_o640_0_S128x128) (extractStridedSlice S128x128 ![512, 0] (vs x3) slices_S1024x128_o512_0_S128x128) (sA x13) (sB x13)⟩,
      ⟨r0_19, block maskC maskP (extractStridedSlice S128x512 ![512, 0] (qs x0 x5 x6 x7 x11) slices_S1024x512_o512_0_S128x512) (extractStridedSlice S128x128 ![512, 0] (ks x1 x5 x6 x7 x12) slices_S1024x128_o512_0_S128x128) (extractStridedSlice S128x128 ![384, 0] (ks x1 x5 x6 x7 x12) slices_S1024x128_o384_0_S128x128) (extractStridedSlice S128x128 ![512, 0] (vs x3) slices_S1024x128_o512_0_S128x128) (extractStridedSlice S128x128 ![384, 0] (vs x3) slices_S1024x128_o384_0_S128x128) (sA x13) (sB x13)⟩,
      ⟨r0_18, block maskC maskP (extractStridedSlice S128x512 ![384, 0] (qs x0 x5 x6 x7 x11) slices_S1024x512_o384_0_S128x512) (extractStridedSlice S128x128 ![384, 0] (ks x1 x5 x6 x7 x12) slices_S1024x128_o384_0_S128x128) (extractStridedSlice S128x128 ![256, 0] (ks x1 x5 x6 x7 x12) slices_S1024x128_o256_0_S128x128) (extractStridedSlice S128x128 ![384, 0] (vs x3) slices_S1024x128_o384_0_S128x128) (extractStridedSlice S128x128 ![256, 0] (vs x3) slices_S1024x128_o256_0_S128x128) (sA x13) (sB x13)⟩,
      ⟨r0_17, block maskC maskP (extractStridedSlice S128x512 ![256, 0] (qs x0 x5 x6 x7 x11) slices_S1024x512_o256_0_S128x512) (extractStridedSlice S128x128 ![256, 0] (ks x1 x5 x6 x7 x12) slices_S1024x128_o256_0_S128x128) (extractStridedSlice S128x128 ![128, 0] (ks x1 x5 x6 x7 x12) slices_S1024x128_o128_0_S128x128) (extractStridedSlice S128x128 ![256, 0] (vs x3) slices_S1024x128_o256_0_S128x128) (extractStridedSlice S128x128 ![128, 0] (vs x3) slices_S1024x128_o128_0_S128x128) (sA x13) (sB x13)⟩,
      ⟨r0_16, block maskC maskP (extractStridedSlice S128x512 ![128, 0] (qs x0 x5 x6 x7 x11) slices_S1024x512_o128_0_S128x512) (extractStridedSlice S128x128 ![128, 0] (ks x1 x5 x6 x7 x12) slices_S1024x128_o128_0_S128x128) (extractStridedSlice S128x128 ![0, 0] (ks x1 x5 x6 x7 x12) slices_S1024x128_o0_0_S128x128) (extractStridedSlice S128x128 ![128, 0] (vs x3) slices_S1024x128_o128_0_S128x128) (extractStridedSlice S128x128 ![0, 0] (vs x3) slices_S1024x128_o0_0_S128x128) (sA x13) (sB x13)⟩,
      ⟨r0_15, block maskC (maskP0 (BitVec.ofNat 32 (i 1).val)) (extractStridedSlice S128x512 ![0, 0] (qs x0 x5 x6 x7 x11) slices_S1024x512_o0_0_S128x512) (extractStridedSlice S128x128 ![0, 0] (ks x1 x5 x6 x7 x12) slices_S1024x128_o0_0_S128x128) (kb x2 x8 x9 x10 x12) (extractStridedSlice S128x128 ![0, 0] (vs x3) slices_S1024x128_o0_0_S128x128) (vb x4) (sA x13) (sB x13)⟩] := by
  rfl

end Cert.KernelIdeal.Att
-- ==== Proof.Spec.lean ====
/-
  The attention's mathematics on the extended reals: a normalised and rotated row, masked scores, the softmax with a
  sink over the two blocks of keys a query may read, and the same softmax divided weight by weight.
-/
module

public import Idealize.ShloMosaic.Lib.Pointwise

@[expose] public section

noncomputable section

namespace Cert.Att

open Idealize.ShloMosaic

/-- The bits of minus infinity. -/
abbrev negInf : EReal := Ideal.ofBits .f32 0xFF800000#32

/-- A row of 64 entries over its root mean square, times its weights. -/
def nrm (x w : Fin 64 → EReal) (d : Fin 64) : EReal :=
  x d * Ideal.rsqrt (Ideal.div (∑ k : Fin 64, x k * x k) (Ideal.ofBits .f32 0x42800000#32)
    + Ideal.ofBits .f32 0x358637BD#32) * w d

/-- The rotary embedding of a row's first sixteen entries. -/
def rot (cs sn : Fin 8 → EReal) (y : Fin 64 → EReal) (d : Fin 64) : EReal :=
  if h : (d : ℕ) < 8 then y d * cs ⟨d, h⟩ - y ⟨d + 8, by omega⟩ * sn ⟨d, h⟩
  else if h2 : (d : ℕ) < 16 then y d * cs ⟨d - 8, by omega⟩ + y ⟨d - 8, by omega⟩ * sn ⟨d - 8, by omega⟩
  else y d

/-- A scaled score where the mask lets it through, else minus infinity. -/
def scr (ok : Fin 128 → Prop) [DecidablePred ok] (q : Fin 64 → EReal) (k : Fin 128 → Fin 64 → EReal) (j : Fin 128) : EReal :=
  if ok j then (∑ d : Fin 64, q d * k j d) * Ideal.ofBits .f32 0x3E000000#32 else negInf

theorem scr_congr {ok ok' : Fin 128 → Prop} [DecidablePred ok] [DecidablePred ok'] {q q' : Fin 64 → EReal}
    {k k' : Fin 128 → Fin 64 → EReal} (ho : ∀ j, ok j ↔ ok' j) (hq : ∀ d, q d = q' d) (hk : ∀ j d, k j d = k' j d) :
    scr ok q k = scr ok' q' k' := by
  funext j
  unfold scr
  rw [show q = q' from funext hq, show k = k' from funext fun j => funext (hk j)]
  exact if_congr (ho j) rfl rfl

/-- The largest of two rows of scores and a sink. -/
def top (sc sp : Fin 128 → EReal) (sink : EReal) : EReal :=
  max (max (Finset.univ.fold max negInf sc) (Finset.univ.fold max negInf sp)) sink

/-- The weights' sum, the sink's included. -/
def den (sc sp : Fin 128 → EReal) (sink : EReal) : EReal :=
  (∑ j, Ideal.exp (sc j - top sc sp sink)) + (∑ j, Ideal.exp (sp j - top sc sp sink)) + Ideal.exp (sink - top sc sp sink)

/-- Weighted values summed, then divided. -/
def att (sc sp : Fin 128 → EReal) (sink : EReal) (vc vp : Fin 128 → EReal) : EReal :=
  Ideal.div ((∑ j, Ideal.exp (sc j - top sc sp sink) * vc j) + ∑ j, Ideal.exp (sp j - top sc sp sink) * vp j)
    (den sc sp sink)

/-- The tables of the rotary embedding along a head's 64 lanes: the factor of the entry itself, -/
def tabC (cs : Fin 8 → EReal) (d : Fin 64) : EReal :=
  if h : (d : ℕ) < 8 then cs ⟨d, h⟩ else if h2 : (d : ℕ) < 16 then cs ⟨d - 8, by omega⟩ else 1

/-- of the entry eight lanes on, -/
def tabM (sn : Fin 8 → EReal) (d : Fin 64) : EReal :=
  if h : (d : ℕ) < 8 then -sn ⟨d, h⟩ else 0

/-- and of the entry eight lanes back. -/
def tabP (sn : Fin 8 → EReal) (d : Fin 64) : EReal :=
  if h : 8 ≤ (d : ℕ) ∧ (d : ℕ) < 16 then sn ⟨d - 8, by omega⟩ else 0

theorem rot_eq (cs sn : Fin 8 → EReal) (y : Fin 64 → EReal) (d : Fin 64) (a b : EReal)
    (ha : ∀ h : (d : ℕ) < 8, a = y ⟨d + 8, by omega⟩) (hb : ∀ h : 8 ≤ (d : ℕ), b = y ⟨d - 8, by omega⟩) :
    y d * tabC cs d + a * tabM sn d + b * tabP sn d = rot cs sn y d := by
  unfold tabC tabM tabP rot
  by_cases h : (d : ℕ) < 8
  · rw [dif_pos h, dif_pos h, dif_pos h, dif_neg (by omega), ha h, mul_zero, add_zero, mul_neg, sub_eq_add_neg]
  · by_cases h2 : (d : ℕ) < 16
    · rw [dif_neg h, dif_neg h, dif_neg h, dif_pos h2, dif_pos h2, dif_pos (by omega), hb (by omega), mul_zero, add_zero]
    · rw [dif_neg h, dif_neg h, dif_neg h, dif_neg h2, dif_neg h2, dif_neg (by omega), mul_zero, mul_zero, add_zero,
        add_zero, mul_one]

/-- The rotary angle of position `t` at frequency `f`. -/
def ang (t : Fin 4096) (f : Fin 8) : EReal :=
  FloatOps.sitofp (F := Ideal) .f32 (BitVec.ofNat 32 t) * Ideal.pow (Ideal.ofBits .f32 0x48F42400#32)
    (-Ideal.div (FloatOps.sitofp (F := Ideal) .f32 (BitVec.ofNat 32 f) * Ideal.ofBits .f32 0x40000000#32)
      (Ideal.ofBits .f32 0x41800000#32))

/-- Its cosine. -/
def cosT (t : Fin 4096) (f : Fin 8) : EReal := Ideal.cos (ang t f)

/-- Its sine. -/
def sinT (t : Fin 4096) (f : Fin 8) : EReal := Ideal.sin (ang t f)

/-- A query, normalised and rotated. -/
def qry (x : Fin 4096 → Fin 512 → EReal) (w : Fin 64 → EReal) (t : Fin 4096) (h : Fin 8) (d : Fin 64) : EReal :=
  rot (cosT t) (sinT t) (nrm (fun k => x t ⟨64 * h + k, by omega⟩) w) d

/-- A key, normalised and rotated. -/
def key (x : Fin 4096 → Fin 128 → EReal) (w : Fin 64 → EReal) (t : Fin 4096) (g : Fin 2) (d : Fin 64) : EReal :=
  rot (cosT t) (sinT t) (nrm (fun k => x t ⟨64 * g + k, by omega⟩) w) d

/-- The attention of position `t`, head `h`, over its own block of keys and the block before. -/
def attn (xq : Fin 4096 → Fin 512 → EReal) (xk xv : Fin 4096 → Fin 128 → EReal) (wq wk : Fin 64 → EReal) (sk : Fin 8 → EReal)
    (t : Fin 4096) (h : Fin 8) (d : Fin 64) : EReal :=
  att (scr (fun j => (j : ℕ) ≤ t % 128) (qry xq wq t h) (fun j => key xk wk ⟨128 * (t / 128) + j, by omega⟩ ⟨h / 4, by omega⟩))
    (scr (fun j => t % 128 < (j : ℕ) ∧ 0 < (t : ℕ) / 128) (qry xq wq t h)
      (fun j => key xk wk ⟨128 * (t / 128 - 1) + j, by omega⟩ ⟨h / 4, by omega⟩))
    (sk h) (fun j => xv ⟨128 * (t / 128) + j, by omega⟩ ⟨64 * (h / 4) + d, by omega⟩)
    (fun j => xv ⟨128 * (t / 128 - 1) + j, by omega⟩ ⟨64 * (h / 4) + d, by omega⟩)

/-- Two reads of a matrix at equal coordinates. -/
theorem at2 {α : Type} {a b : ℕ} (f : (⟨2, ![a, b]⟩ : Shape).Idx → α) {i i' : Fin a} {j j' : Fin b}
    (h : (i : ℕ) = i') (h' : (j : ℕ) = j') : f (ix2 i j) = f (ix2 i' j') := by
  rw [Fin.ext h, Fin.ext h']

end Cert.Att
-- ==== Proof.KRead.lean ====
/-
  The attention kernel's terms read at an index on the extended reals.
-/
module

public import proofs.«01_k».proof.Proof.Vocab
public import proofs.«01_k».proof.Proof.Spec

@[expose] public section

set_option maxRecDepth 16384

noncomputable section

namespace Cert.KernelIdeal.Att

open Idealize.ShloMosaic Idealize.SL.Sem Cert.KernelIdeal Cert.KernelIdeal.Gen Cert.Att

theorem soft_apply (sc sp : FVec Ideal S512x128 .f32) (sink : FVec Ideal S512x1 .f32) (vc vp : FVec Ideal S128x64 .f32)
    (r : Fin 512) (d : Fin 64) :
    soft sc sp sink vc vp (ix2 r d) = att (fun j => sc (ix2 r j)) (fun j => sp (ix2 r j)) (sink (ix2 r 0))
      (fun j => vc (ix2 j d)) (fun j => vp (ix2 j d)) := by
  pointwise [soft, pv, expo, rowMax, rowSum, att, den, top]

theorem score_apply (mk : IVec S512x128 1) (qg : FVec Ideal S512x64 .f32) (k : FVec Ideal S128x64 .f32)
    (ok : Fin 128 → Prop) [DecidablePred ok] (r : Fin 512) (hok : ∀ j, mk (ix2 r j) = 1#1 ↔ ok j) (j : Fin 128) :
    score mk qg k (ix2 r j) = scr ok (fun d => qg (ix2 r d)) (fun j d => k (ix2 j d)) j := by
  have h := hok j
  pointwise [score, scr]
  unfold Scalar.select
  by_cases hj : ok j
  · rw [if_pos hj, if_pos (by simpa using h.mpr hj)]
  · rw [if_neg hj, if_neg (by simpa using fun e => hj (h.mp e))]

theorem stack0_apply (q : FVec Ideal S128x512 .f32) (hh : Fin 4) (r : Fin 128) (k : Fin 64) :
    stack0 q (ix2 ⟨128 * hh + r, by omega⟩ k) = q (ix2 r ⟨64 * (0 + hh) + k, by omega⟩) := by
  pointwise [stack0]
  fin_vals hh with hk
  all_goals
    repeat' split
    all_goals first
      | (exfalso; omega)
      | exact at2 q (by simp only []; omega) (by simp only []; omega)

theorem stack1_apply (q : FVec Ideal S128x512 .f32) (hh : Fin 4) (r : Fin 128) (k : Fin 64) :
    stack1 q (ix2 ⟨128 * hh + r, by omega⟩ k) = q (ix2 r ⟨64 * (4 + hh) + k, by omega⟩) := by
  pointwise [stack1]
  fin_vals hh with hk
  all_goals
    repeat' split
    all_goals first
      | (exfalso; omega)
      | exact at2 q (by simp only []; omega) (by simp only []; omega)

theorem group0_apply (mc mp : IVec S512x128 1) (q : FVec Ideal S128x512 .f32) (kc kp vc vp : FVec Ideal S128x128 .f32)
    (sink : FVec Ideal S512x1 .f32) (okc okp : Fin 128 → Prop) [DecidablePred okc] [DecidablePred okp]
    (hh : Fin 4) (r : Fin 128) (d : Fin 64)
    (hc : ∀ j, mc (ix2 ⟨128 * hh + r, by omega⟩ j) = 1#1 ↔ okc j) (hp : ∀ j, mp (ix2 ⟨128 * hh + r, by omega⟩ j) = 1#1 ↔ okp j) :
    group0 mc mp q kc kp vc vp sink (ix2 ⟨128 * hh + r, by omega⟩ d) =
      att (scr okc (fun k => q (ix2 r ⟨64 * (0 + hh) + k, by omega⟩)) (fun j k => kc (ix2 j ⟨0 + k, by omega⟩)))
        (scr okp (fun k => q (ix2 r ⟨64 * (0 + hh) + k, by omega⟩)) (fun j k => kp (ix2 j ⟨0 + k, by omega⟩)))
        (sink (ix2 ⟨128 * hh + r, by omega⟩ 0))
        (fun j => vc (ix2 j ⟨0 + d, by omega⟩)) (fun j => vp (ix2 j ⟨0 + d, by omega⟩)) := by
  unfold group0
  rw [soft_apply]
  congr 1
  · funext j
    rw [score_apply _ _ _ okc _ hc]
    congr 1
    · funext k; exact stack0_apply q hh r k
    · funext j k; pointwise
  · funext j
    rw [score_apply _ _ _ okp _ hp]
    congr 1
    · funext k; exact stack0_apply q hh r k
    · funext j k; pointwise
  · funext j; pointwise
  · funext j; pointwise

theorem group1_apply (mc mp : IVec S512x128 1) (q : FVec Ideal S128x512 .f32) (kc kp vc vp : FVec Ideal S128x128 .f32)
    (sink : FVec Ideal S512x1 .f32) (okc okp : Fin 128 → Prop) [DecidablePred okc] [DecidablePred okp]
    (hh : Fin 4) (r : Fin 128) (d : Fin 64)
    (hc : ∀ j, mc (ix2 ⟨128 * hh + r, by omega⟩ j) = 1#1 ↔ okc j) (hp : ∀ j, mp (ix2 ⟨128 * hh + r, by omega⟩ j) = 1#1 ↔ okp j) :
    group1 mc mp q kc kp vc vp sink (ix2 ⟨128 * hh + r, by omega⟩ d) =
      att (scr okc (fun k => q (ix2 r ⟨64 * (4 + hh) + k, by omega⟩)) (fun j k => kc (ix2 j ⟨64 + k, by omega⟩)))
        (scr okp (fun k => q (ix2 r ⟨64 * (4 + hh) + k, by omega⟩)) (fun j k => kp (ix2 j ⟨64 + k, by omega⟩)))
        (sink (ix2 ⟨128 * hh + r, by omega⟩ 0))
        (fun j => vc (ix2 j ⟨64 + d, by omega⟩)) (fun j => vp (ix2 j ⟨64 + d, by omega⟩)) := by
  unfold group1
  rw [soft_apply]
  congr 1
  · funext j
    rw [score_apply _ _ _ okc _ hc]
    congr 1
    · funext k; exact stack1_apply q hh r k
    · funext j k; pointwise
  · funext j
    rw [score_apply _ _ _ okp _ hp]
    congr 1
    · funext k; exact stack1_apply q hh r k
    · funext j k; pointwise
  · funext j; pointwise
  · funext j; pointwise

theorem rows_apply (a b : FVec Ideal S512x64 .f32) (h : Fin 8) (r : Fin 128) (d : Fin 64) :
    rows a b (ix3 0 r ⟨64 * h + d, by omega⟩) =
      (if (h : ℕ) < 4 then a else b) (ix2 ⟨128 * (h % 4) + r, by omega⟩ d) := by
  obtain ⟨z, hz⟩ : ∃ z, z = if (h : ℕ) < 4 then a else b := ⟨_, rfl⟩
  rw [← hz]
  pointwise [rows]
  fin_vals h with hk
  all_goals
    repeat rw [dif_neg (by omega)]
    try rw [dif_pos (by omega)]
    first
      | (obtain rfl : z = a := hz.trans (if_pos (by omega))
         exact at2 z (by simp only []; omega) (by simp only []; omega))
      | (obtain rfl : z = b := hz.trans (if_neg (by omega))
         exact at2 z (by simp only []; omega) (by simp only []; omega))

theorem normQ_apply (x : FVec Ideal S1024x512 .f32) (wt : FVec Ideal S1x512 .f32) (t : Fin 1024) (h : Fin 8) (d : Fin 64) :
    normQ x wt (ix2 t ⟨64 * h + d, by omega⟩) = nrm (fun k => x (ix2 t ⟨64 * h + k, by omega⟩))
      (fun k => wt (ix2 0 ⟨64 * h + k, by omega⟩)) d := by
  pointwise [normQ, rstd1024, nrm]
  congr 1
  congr 1
  fin_vals h with hk
  all_goals
    repeat rw [dif_neg (by omega)]
    try rw [dif_pos (by omega)]
    congr 3
    refine Finset.sum_congr rfl fun k _ => ?_
    congr 1 <;> exact at2 x rfl (by simp only []; omega)

theorem ropeQ_apply (y c sm sp : FVec Ideal S1024x512 .f32) (t : Fin 1024) (h : Fin 8) (d : Fin 64) (cs sn : Fin 8 → EReal)
    (hc : c (ix2 t ⟨64 * h + d, by omega⟩) = tabC cs d) (hm : sm (ix2 t ⟨64 * h + d, by omega⟩) = tabM sn d)
    (hp : sp (ix2 t ⟨64 * h + d, by omega⟩) = tabP sn d) :
    ropeQ y c sm sp (ix2 t ⟨64 * h + d, by omega⟩) = rot cs sn (fun k => y (ix2 t ⟨64 * h + k, by omega⟩)) d := by
  rw [← rot_eq cs sn (fun k => y (ix2 t ⟨64 * h + k, by omega⟩)) d (y (ix2 t ⟨(64 * h + d + 512 - 504) % 512, by omega⟩))
    (y (ix2 t ⟨(64 * h + d + 512 - 8) % 512, by omega⟩)) (fun e => at2 y rfl (by simp only []; omega))
    (fun e => at2 y rfl (by simp only []; omega)), ← hc, ← hm, ← hp]
  pointwise [ropeQ]

theorem normK_apply (x : FVec Ideal S1024x128 .f32) (wt : FVec Ideal S1x128 .f32) (t : Fin 1024) (h : Fin 2) (d : Fin 64) :
    normK x wt (ix2 t ⟨64 * h + d, by omega⟩) = nrm (fun k => x (ix2 t ⟨64 * h + k, by omega⟩))
      (fun k => wt (ix2 0 ⟨64 * h + k, by omega⟩)) d := by
  pointwise [normK, rstd1024, nrm]
  congr 1
  congr 1
  fin_vals h with hk
  all_goals
    repeat rw [dif_neg (by omega)]
    try rw [dif_pos (by omega)]
    congr 3
    refine Finset.sum_congr rfl fun k _ => ?_
    congr 1 <;> exact at2 x rfl (by simp only []; omega)

theorem ropeK_apply (y c sm sp : FVec Ideal S1024x128 .f32) (t : Fin 1024) (h : Fin 2) (d : Fin 64) (cs sn : Fin 8 → EReal)
    (hc : c (ix2 t ⟨64 * h + d, by omega⟩) = tabC cs d) (hm : sm (ix2 t ⟨64 * h + d, by omega⟩) = tabM sn d)
    (hp : sp (ix2 t ⟨64 * h + d, by omega⟩) = tabP sn d) :
    ropeK y c sm sp (ix2 t ⟨64 * h + d, by omega⟩) = rot cs sn (fun k => y (ix2 t ⟨64 * h + k, by omega⟩)) d := by
  rw [← rot_eq cs sn (fun k => y (ix2 t ⟨64 * h + k, by omega⟩)) d (y (ix2 t ⟨(64 * h + d + 128 - 120) % 128, by omega⟩))
    (y (ix2 t ⟨(64 * h + d + 128 - 8) % 128, by omega⟩)) (fun e => at2 y rfl (by simp only []; omega))
    (fun e => at2 y rfl (by simp only []; omega)), ← hc, ← hm, ← hp]
  pointwise [ropeK]

theorem normP_apply (x : FVec Ideal S128x128 .f32) (wt : FVec Ideal S1x128 .f32) (t : Fin 128) (h : Fin 2) (d : Fin 64) :
    normP x wt (ix2 t ⟨64 * h + d, by omega⟩) = nrm (fun k => x (ix2 t ⟨64 * h + k, by omega⟩))
      (fun k => wt (ix2 0 ⟨64 * h + k, by omega⟩)) d := by
  pointwise [normP, rstd128, nrm]
  congr 1
  congr 1
  fin_vals h with hk
  all_goals
    repeat rw [dif_neg (by omega)]
    try rw [dif_pos (by omega)]
    congr 3
    refine Finset.sum_congr rfl fun k _ => ?_
    congr 1 <;> exact at2 x rfl (by simp only []; omega)

theorem ropeP_apply (y c sm sp : FVec Ideal S128x128 .f32) (t : Fin 128) (h : Fin 2) (d : Fin 64) (cs sn : Fin 8 → EReal)
    (hc : c (ix2 t ⟨64 * h + d, by omega⟩) = tabC cs d) (hm : sm (ix2 t ⟨64 * h + d, by omega⟩) = tabM sn d)
    (hp : sp (ix2 t ⟨64 * h + d, by omega⟩) = tabP sn d) :
    ropeP y c sm sp (ix2 t ⟨64 * h + d, by omega⟩) = rot cs sn (fun k => y (ix2 t ⟨64 * h + k, by omega⟩)) d := by
  rw [← rot_eq cs sn (fun k => y (ix2 t ⟨64 * h + k, by omega⟩)) d (y (ix2 t ⟨(64 * h + d + 128 - 120) % 128, by omega⟩))
    (y (ix2 t ⟨(64 * h + d + 128 - 8) % 128, by omega⟩)) (fun e => at2 y rfl (by simp only []; omega))
    (fun e => at2 y rfl (by simp only []; omega)), ← hc, ← hm, ← hp]
  pointwise [ropeP]

theorem wide_apply (x : FVec Ideal S1024x128 .f32) (t : Fin 1024) (h : Fin 8) (d : Fin 64) :
    wide x (ix2 t ⟨64 * h + d, by omega⟩) = x (ix2 t ⟨64 * (h % 2) + d, by omega⟩) := by
  pointwise [wide]
  fin_vals h with hk
  all_goals
    repeat' split
    all_goals first
      | (exfalso; omega)
      | exact at2 x rfl (by simp only []; omega)

theorem qpos_apply (r : Fin 512) (j : Fin 128) : qpos (ix2 r j) = BitVec.ofNat 32 (r % 128) := by
  pointwise [qpos, k0_pay36]
  revert r
  decide +kernel

theorem kpos_apply (r : Fin 512) (j : Fin 128) : kpos (ix2 r j) = BitVec.ofNat 32 j := by
  pointwise [kpos]

theorem toInt_small (n : ℕ) (h : n < 128) : (BitVec.ofNat 32 n).toInt = n := by
  rw [BitVec.toInt_eq_toNat_of_lt] <;> simp only [BitVec.toNat_ofNat] <;> omega

theorem maskC_iff (hh : Fin 4) (r j : Fin 128) : maskC (ix2 ⟨128 * hh + r, by omega⟩ j) = 1#1 ↔ (j : ℕ) ≤ r := by
  unfold maskC
  show IntOp.cmpi .sle (kpos (ix2 _ j)) (qpos (ix2 _ j)) = 1#1 ↔ _
  rw [kpos_apply, qpos_apply]
  have e : (128 * (hh : ℕ) + r) % 128 = r := by omega
  simp only [e]
  unfold IntOp.cmpi
  simp only [BitVec.sle, toInt_small _ j.isLt, toInt_small _ r.isLt, Nat.cast_le]
  by_cases hj : (j : ℕ) ≤ r <;> simp only [hj, decide_true, decide_false] <;> decide

theorem maskP_iff (hh : Fin 4) (r j : Fin 128) : maskP (ix2 ⟨128 * hh + r, by omega⟩ j) = 1#1 ↔ (r : ℕ) < j := by
  unfold maskP
  show IntOp.cmpi .sgt (kpos (ix2 _ j)) (qpos (ix2 _ j)) = 1#1 ↔ _
  rw [kpos_apply, qpos_apply]
  have e : (128 * (hh : ℕ) + r) % 128 = r := by omega
  simp only [e]
  unfold IntOp.cmpi
  simp only [BitVec.slt, toInt_small _ j.isLt, toInt_small _ r.isLt, Nat.cast_lt]
  by_cases hj : (r : ℕ) < j <;> simp only [hj, decide_true, decide_false] <;> decide

theorem maskP0_iff (i : Fin 4) (hh : Fin 4) (r j : Fin 128) :
    maskP0 (BitVec.ofNat 32 i) (ix2 ⟨128 * hh + r, by omega⟩ j) = 1#1 ↔ ((r : ℕ) < j ∧ 0 < (i : ℕ)) := by
  have h := maskP_iff hh r j
  have hi : Scalar.cmpi .sgt (BitVec.ofNat 32 i) 0#32 = if 0 < (i : ℕ) then 1#1 else 0#1 := by
    revert i; decide +kernel
  unfold maskP0
  show IntOp.andi (maskP (ix2 _ j)) (Scalar.cmpi .sgt (BitVec.ofNat 32 i) 0#32) = 1#1 ↔ _
  rw [hi, ← h]
  rcases BitVec.eq_zero_or_eq_one (maskP (ix2 ⟨128 * hh + r, by omega⟩ j)) with e | e <;> rw [e] <;>
    by_cases h0 : 0 < (i : ℕ) <;> simp [h0, IntOp.andi]

theorem block_apply (mc mp : IVec S512x128 1) (q : FVec Ideal S128x512 .f32) (kc kp vc vp : FVec Ideal S128x128 .f32)
    (sa sb : FVec Ideal S512x1 .f32) (okc okp : Fin 128 → Fin 128 → Prop) [∀ r, DecidablePred (okc r)] [∀ r, DecidablePred (okp r)]
    (hc : ∀ (hh : Fin 4) (r j : Fin 128), mc (ix2 ⟨128 * hh + r, by omega⟩ j) = 1#1 ↔ okc r j)
    (hp : ∀ (hh : Fin 4) (r j : Fin 128), mp (ix2 ⟨128 * hh + r, by omega⟩ j) = 1#1 ↔ okp r j)
    (h : Fin 8) (r : Fin 128) (d : Fin 64) :
    block mc mp q kc kp vc vp sa sb (ix3 0 r ⟨64 * h + d, by omega⟩) =
      att (scr (okc r) (fun k => q (ix2 r ⟨64 * h + k, by omega⟩)) (fun j k => kc (ix2 j ⟨64 * (h / 4) + k, by omega⟩)))
        (scr (okp r) (fun k => q (ix2 r ⟨64 * h + k, by omega⟩)) (fun j k => kp (ix2 j ⟨64 * (h / 4) + k, by omega⟩)))
        ((if (h : ℕ) < 4 then sa else sb) (ix2 ⟨128 * (h % 4) + r, by omega⟩ 0))
        (fun j => vc (ix2 j ⟨64 * (h / 4) + d, by omega⟩)) (fun j => vp (ix2 j ⟨64 * (h / 4) + d, by omega⟩)) := by
  unfold block
  rw [rows_apply]
  by_cases h4 : (h : ℕ) < 4
  · rw [if_pos h4, if_pos h4]
    refine (group0_apply mc mp q kc kp vc vp sa (okc r) (okp r) ⟨h % 4, by omega⟩ r d (hc _ r) (hp _ r)).trans ?_
    have e1 : (0 + (h : ℕ) % 4) = h := by omega
    have e2 : 64 * ((h : ℕ) / 4) = 0 := by omega
    simp only [e1, e2]
  · rw [if_neg h4, if_neg h4]
    refine (group1_apply mc mp q kc kp vc vp sb (okc r) (okp r) ⟨h % 4, by omega⟩ r d (hc _ r) (hp _ r)).trans ?_
    have e1 : (4 + (h : ℕ) % 4) = h := by omega
    have e2 : 64 * ((h : ℕ) / 4) = 64 := by omega
    simp only [e1, e2]

theorem sA_apply (x13 : Vec Ideal S8x128 .f32) (hh : Fin 4) (r : Fin 128) :
    sA x13 (ix2 ⟨128 * hh + r, by omega⟩ 0) = x13 (ix2 ⟨hh, by omega⟩ 0) := by
  pointwise [sA, sinks4, sinkRows]
  fin_vals hh with hk
  all_goals
    repeat' split
    all_goals first
      | (exfalso; omega)
      | exact at2 x13 (by simp [hk]) (by simp)

theorem sB_apply (x13 : Vec Ideal S8x128 .f32) (hh : Fin 4) (r : Fin 128) :
    sB x13 (ix2 ⟨128 * hh + r, by omega⟩ 0) = x13 (ix2 ⟨4 + hh, by omega⟩ 0) := by
  pointwise [sB, sinks4, sinkRows]
  fin_vals hh with hk
  all_goals
    repeat' split
    all_goals first
      | (exfalso; omega)
      | exact at2 x13 (by simp [hk]) (by simp)

end Cert.KernelIdeal.Att
-- ==== Proof.KBlocks.lean ====
/-
  The blocks a grid point of the attention reads, at an index, and the host's tables, tiled weights and sinks.
-/
module

public import proofs.«01_k».proof.Proof.Gen.KernelIdeal.Value
public import proofs.«01_k».proof.Proof.KRead
public import Idealize.ShloMosaic.Lib.Pipeline.ValueKit
public import Idealize.ShloMosaic.Lib.StableHlo.RunRead

@[expose] public section

set_option maxRecDepth 16384

noncomputable section

namespace Cert.KernelIdeal.Att

open Idealize.ShloMosaic Idealize.ShloMosaic.TcCoe Idealize.SL.Sem Cert.KernelIdeal Cert.KernelIdeal.Gen Cert.Att

variable (m : (ℓ : Loc nD τ sig) → Buf (Elt Ideal) ℓ) (c : Dev nD)

theorem idx : ∀ t : Fin grid0.N,
    win0_0.index t = ![(grid0.coords t 0).val, (grid0.coords t 1).val, 0] ∧
    win0_1.index t = ![(grid0.coords t 0).val, (grid0.coords t 1).val, 0] ∧
    win0_2.index t = ![(grid0.coords t 0).val, 8 * (grid0.coords t 1).val - 1, 0] ∧
    win0_3.index t = ![(grid0.coords t 0).val, (grid0.coords t 1).val, 0] ∧
    win0_4.index t = ![(grid0.coords t 0).val, 8 * (grid0.coords t 1).val - 1, 0] ∧
    win0_5.index t = ![(grid0.coords t 1).val, 0] ∧
    win0_6.index t = ![(grid0.coords t 1).val, 0] ∧
    win0_7.index t = ![(grid0.coords t 1).val, 0] ∧
    win0_8.index t = ![8 * (grid0.coords t 1).val - 1, 0] ∧
    win0_9.index t = ![8 * (grid0.coords t 1).val - 1, 0] ∧
    win0_10.index t = ![8 * (grid0.coords t 1).val - 1, 0] ∧
    win0_11.index t = ![0, 0] ∧ win0_12.index t = ![0, 0] ∧ win0_13.index t = ![0, 0] ∧
    win0_14.index t = ![(grid0.coords t 0).val, (grid0.coords t 1).val, 0] := by decide +kernel

theorem blk0 (t : Fin cfg0.N) (b i : Fin 4) (hb : (grid0.coords t 0).val = b) (hi : (grid0.coords t 1).val = i) (r : Fin 1024) (l : Fin 512) :
    (iblk m c 0 t : Vec Ideal S1x1024x512 .f32) (ix3 0 r l) = m (c, main_arg0) (ix3 b ⟨1024 * i + r, by omega⟩ l) := by
  blk_ext [iblk, V, idx t, hb, hi]

theorem blk1 (t : Fin cfg0.N) (b i : Fin 4) (hb : (grid0.coords t 0).val = b) (hi : (grid0.coords t 1).val = i) (r : Fin 1024) (l : Fin 128) :
    (iblk m c 1 t : Vec Ideal S1x1024x128 .f32) (ix3 0 r l) = m (c, main_arg1) (ix3 b ⟨1024 * i + r, by omega⟩ l) := by
  blk_ext [iblk, V, idx t, hb, hi]

theorem blk3 (t : Fin cfg0.N) (b i : Fin 4) (hb : (grid0.coords t 0).val = b) (hi : (grid0.coords t 1).val = i) (r : Fin 1024) (l : Fin 128) :
    (iblk m c 3 t : Vec Ideal S1x1024x128 .f32) (ix3 0 r l) = m (c, main_arg2) (ix3 b ⟨1024 * i + r, by omega⟩ l) := by
  blk_ext [iblk, V, idx t, hb, hi]

theorem blk2 (t : Fin cfg0.N) (b i : Fin 4) (hb : (grid0.coords t 0).val = b) (hi : (grid0.coords t 1).val = i) (r l : Fin 128) :
    (iblk m c 2 t : Vec Ideal S1x128x128 .f32) (ix3 0 r l) = m (c, main_arg1) (ix3 b ⟨128 * (8 * i - 1) + r, by omega⟩ l) := by
  blk_ext [iblk, V, idx t, hb, hi]

theorem blk4 (t : Fin cfg0.N) (b i : Fin 4) (hb : (grid0.coords t 0).val = b) (hi : (grid0.coords t 1).val = i) (r l : Fin 128) :
    (iblk m c 4 t : Vec Ideal S1x128x128 .f32) (ix3 0 r l) = m (c, main_arg2) (ix3 b ⟨128 * (8 * i - 1) + r, by omega⟩ l) := by
  blk_ext [iblk, V, idx t, hb, hi]

theorem blk5 (t : Fin cfg0.N) (b i : Fin 4) (hb : (grid0.coords t 0).val = b) (hi : (grid0.coords t 1).val = i) (r : Fin 1024) (l : Fin 128) :
    (iblk m c 5 t : Vec Ideal S1024x128 .f32) (ix2 r l) = (V m c main_v27 : Vec Ideal S4096x128 .f32) (ix2 ⟨1024 * i + r, by omega⟩ l) := by
  blk_ext [iblk, idx t, hb, hi]

theorem blk6 (t : Fin cfg0.N) (b i : Fin 4) (hb : (grid0.coords t 0).val = b) (hi : (grid0.coords t 1).val = i) (r : Fin 1024) (l : Fin 128) :
    (iblk m c 6 t : Vec Ideal S1024x128 .f32) (ix2 r l) = (V m c main_v30 : Vec Ideal S4096x128 .f32) (ix2 ⟨1024 * i + r, by omega⟩ l) := by
  blk_ext [iblk, idx t, hb, hi]

theorem blk7 (t : Fin cfg0.N) (b i : Fin 4) (hb : (grid0.coords t 0).val = b) (hi : (grid0.coords t 1).val = i) (r : Fin 1024) (l : Fin 128) :
    (iblk m c 7 t : Vec Ideal S1024x128 .f32) (ix2 r l) = (V m c main_v33 : Vec Ideal S4096x128 .f32) (ix2 ⟨1024 * i + r, by omega⟩ l) := by
  blk_ext [iblk, idx t, hb, hi]

theorem blk8 (t : Fin cfg0.N) (b i : Fin 4) (hb : (grid0.coords t 0).val = b) (hi : (grid0.coords t 1).val = i) (r l : Fin 128) :
    (iblk m c 8 t : Vec Ideal S128x128 .f32) (ix2 r l) = (V m c main_v27 : Vec Ideal S4096x128 .f32) (ix2 ⟨128 * (8 * i - 1) + r, by omega⟩ l) := by
  blk_ext [iblk, idx t, hb, hi]

theorem blk9 (t : Fin cfg0.N) (b i : Fin 4) (hb : (grid0.coords t 0).val = b) (hi : (grid0.coords t 1).val = i) (r l : Fin 128) :
    (iblk m c 9 t : Vec Ideal S128x128 .f32) (ix2 r l) = (V m c main_v30 : Vec Ideal S4096x128 .f32) (ix2 ⟨128 * (8 * i - 1) + r, by omega⟩ l) := by
  blk_ext [iblk, idx t, hb, hi]

theorem blk10 (t : Fin cfg0.N) (b i : Fin 4) (hb : (grid0.coords t 0).val = b) (hi : (grid0.coords t 1).val = i) (r l : Fin 128) :
    (iblk m c 10 t : Vec Ideal S128x128 .f32) (ix2 r l) = (V m c main_v33 : Vec Ideal S4096x128 .f32) (ix2 ⟨128 * (8 * i - 1) + r, by omega⟩ l) := by
  blk_ext [iblk, idx t, hb, hi]

theorem blk11 (t : Fin cfg0.N) (r : Fin 1) (l : Fin 512) :
    (iblk m c 11 t : Vec Ideal S1x512 .f32) (ix2 r l) = (V m c main_v37 : Vec Ideal S1x512 .f32) (ix2 r l) := by
  blk_ext [iblk, idx t]

theorem blk12 (t : Fin cfg0.N) (r : Fin 1) (l : Fin 128) :
    (iblk m c 12 t : Vec Ideal S1x128 .f32) (ix2 r l) = (V m c main_v41 : Vec Ideal S1x128 .f32) (ix2 r l) := by
  blk_ext [iblk, idx t]

theorem blk13 (t : Fin cfg0.N) (r : Fin 8) (l : Fin 128) :
    (iblk m c 13 t : Vec Ideal S8x128 .f32) (ix2 r l) = (V m c main_v43 : Vec Ideal S8x128 .f32) (ix2 r l) := by
  blk_ext [iblk, idx t]

/-- The result of a line's operation over three operands, each read at its own reference. -/
theorem nary3_read {x a b y : Ref sig .tc} (f : ((k : Fin 3) → ((![x, a, b] : Fin 3 → Ref sig .tc) k).ty.Contents (Elt Ideal)) → y.ty.Contents (Elt Ideal))
    (hxs hy) (F : Valuation τ sig (Elt Ideal)) :
    (StableHlo.nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

theorem cons2 {α : Fin 3 → Type} (a : α 0) (b : α 1) (e : α 2) (f : (i : Fin 0) → α i.succ.succ.succ) :
    (Fin.cons a (Fin.cons b (Fin.cons e f)) : (k : Fin 3) → α k) 2 = e := rfl

theorem tab27 (t : Fin 4096) (h : Fin 2) (d : Fin 64) :
    (V m c main_v27 : Vec Ideal S4096x128 .f32) (ix2 t ⟨64 * h + d, by omega⟩) = tabC (cosT t) d := by
  simp (disch := decide) only [V, StableHlo.readAfter, StableHlo.readUpto, StableHlo.nullary_result', StableHlo.unary_result', StableHlo.binary_result', StableHlo.reshape_result', nary3_read]
  pointwise
  unfold tabC
  by_cases h8 : d.val < 8
  · refine (dif_pos h8).trans (Eq.trans ?_ (dif_pos h8).symm)
    change StableHlo.upto (hostOps0 (F := Ideal)) _ 22 (Proc.tc.devRef main_v15) _ = _
    simp (disch := decide) only [StableHlo.readAfter, StableHlo.readUpto, StableHlo.nullary_result', StableHlo.unary_result', StableHlo.binary_result', StableHlo.reshape_result', nary3_read]
    pointwise
    rfl
  by_cases h16 : d.val < 16
  · refine ((dif_neg h8).trans (dif_pos (show d.val - 8 < 8 by omega))).trans (Eq.trans ?_ ((dif_neg h8).trans (dif_pos h16)).symm)
    change StableHlo.upto (hostOps0 (F := Ideal)) _ 22 (Proc.tc.devRef main_v15) _ = _
    simp (disch := decide) only [StableHlo.readAfter, StableHlo.readUpto, StableHlo.nullary_result', StableHlo.unary_result', StableHlo.binary_result', StableHlo.reshape_result', nary3_read]
    pointwise
    rfl
  · refine ((dif_neg h8).trans (dif_neg (show ¬ d.val - 8 < 8 by omega))).trans (Eq.trans ?_ ((dif_neg h8).trans (dif_neg h16)).symm)
    refine (congrFun (cons2 _ _ _ _) _).trans ?_
    simp (disch := decide) only [StableHlo.readAfter, StableHlo.readUpto, StableHlo.nullary_result', StableHlo.unary_result', StableHlo.binary_result', StableHlo.reshape_result', nary3_read]
    pointwise

theorem tab30 (t : Fin 4096) (h : Fin 2) (d : Fin 64) :
    (V m c main_v30 : Vec Ideal S4096x128 .f32) (ix2 t ⟨64 * h + d, by omega⟩) = tabM (sinT t) d := by
  entry_read
  pointwise [tabM, sinT, ang]

theorem tab33 (t : Fin 4096) (h : Fin 2) (d : Fin 64) :
    (V m c main_v33 : Vec Ideal S4096x128 .f32) (ix2 t ⟨64 * h + d, by omega⟩) = tabP (sinT t) d := by
  simp (disch := decide) only [V, StableHlo.readAfter, StableHlo.readUpto, StableHlo.nullary_result', StableHlo.unary_result', StableHlo.binary_result', StableHlo.reshape_result', nary3_read]
  pointwise
  unfold tabP
  by_cases h8 : d.val < 8
  · refine (dif_pos h8).trans (Eq.trans ?_ (dif_neg (by omega)).symm)
    change StableHlo.upto (hostOps0 (F := Ideal)) _ 31 (Proc.tc.devRef main_v22) _ = _
    simp (disch := decide) only [StableHlo.readAfter, StableHlo.readUpto, StableHlo.nullary_result', StableHlo.unary_result', StableHlo.binary_result', StableHlo.reshape_result', nary3_read]
    pointwise
  by_cases h16 : d.val < 16
  · refine ((dif_neg h8).trans (dif_pos (show d.val - 8 < 8 by omega))).trans (Eq.trans ?_ (dif_pos ⟨by omega, by omega⟩).symm)
    change StableHlo.upto (hostOps0 (F := Ideal)) _ 31 (Proc.tc.devRef main_v16) _ = _
    simp (disch := decide) only [StableHlo.readAfter, StableHlo.readUpto, StableHlo.nullary_result', StableHlo.unary_result', StableHlo.binary_result', StableHlo.reshape_result', nary3_read]
    pointwise
    rfl
  · refine ((dif_neg h8).trans (dif_neg (show ¬ d.val - 8 < 8 by omega))).trans (Eq.trans ?_ (dif_neg (by omega)).symm)
    refine (congrFun (cons2 _ _ _ _) _).trans ?_
    simp (disch := decide) only [StableHlo.readAfter, StableHlo.readUpto, StableHlo.nullary_result', StableHlo.unary_result', StableHlo.binary_result', StableHlo.reshape_result', nary3_read]
    pointwise

theorem wq (h : Fin 8) (d : Fin 64) :
    (V m c main_v37 : Vec Ideal S1x512 .f32) (ix2 0 ⟨64 * h + d, by omega⟩) = m (c, main_arg3) (ix1 d) := by
  entry_read
  pointwise

theorem wk (h : Fin 2) (d : Fin 64) :
    (V m c main_v41 : Vec Ideal S1x128 .f32) (ix2 0 ⟨64 * h + d, by omega⟩) = m (c, main_arg4) (ix1 d) := by
  entry_read
  pointwise

theorem snk (h : Fin 8) (d : Fin 128) :
    (V m c main_v43 : Vec Ideal S8x128 .f32) (ix2 h d) = m (c, main_arg5) (ix1 h) := by
  entry_read
  pointwise

end Cert.KernelIdeal.Att
-- ==== Proof.KVal.lean ====
/-
  The attention kernel's result array: at every index the attention of the launch's arrays.
-/
module

public import proofs.«01_k».proof.Proof.KBlocks

@[expose] public section

set_option maxRecDepth 16384

noncomputable section

namespace Cert.KernelIdeal.Att

open Idealize.ShloMosaic Idealize.ShloMosaic.TcCoe Idealize.SL.Sem Cert.KernelIdeal Cert.KernelIdeal.Gen Cert.Att
open Idealize.ShloMosaic.Pipeline (Dat)

variable (m : (ℓ : Loc nD τ sig) → Buf (Elt Ideal) ℓ) (c : Dev nD)

/-- The launch's arrays, by their coordinates. -/
def xq (b : Fin 4) (t : Fin 4096) (l : Fin 512) : EReal := m (c, main_arg0) (ix3 b t l)
def xk (b : Fin 4) (t : Fin 4096) (l : Fin 128) : EReal := m (c, main_arg1) (ix3 b t l)
def xv (b : Fin 4) (t : Fin 4096) (l : Fin 128) : EReal := m (c, main_arg2) (ix3 b t l)
def yq (d : Fin 64) : EReal := m (c, main_arg3) (ix1 d)
def yk (d : Fin 64) : EReal := m (c, main_arg4) (ix1 d)
def sk (h : Fin 8) : EReal := m (c, main_arg5) (ix1 h)

/-- The attention of the launch's arrays. -/
def G : Vec Ideal S4x4096x512 .bf16 := fun j =>
  attn (xq m c (j 0)) (xk m c (j 0)) (xv m c (j 0)) (yq m c) (yk m c) (sk m c) (j 1)
    ⟨(j 2 : ℕ) / 64, by have := (j 2).isLt; change (j 2 : ℕ) < 512 at this; omega⟩ ⟨(j 2 : ℕ) % 64, by omega⟩

section points

variable (t : Fin cfg0.N) (b i : Fin 4) (hb : (grid0.coords t 0).val = b) (hi : (grid0.coords t 1).val = i)
include hb hi

theorem qs_at (r : Fin 1024) (h : Fin 8) (d : Fin 64) :
    qs (iblk m c 0 t) (iblk m c 5 t) (iblk m c 6 t) (iblk m c 7 t) (iblk m c 11 t) (ix2 r ⟨64 * h + d, by omega⟩)
      = qry (xq m c b) (yq m c) ⟨1024 * i + r, by omega⟩ h d := by
  unfold qs
  rw [ropeQ_apply _ _ _ _ r h d (cosT ⟨1024 * i + r, by omega⟩) (sinT ⟨1024 * i + r, by omega⟩)]
  · unfold qry
    congr 1
    funext k
    rw [normQ_apply]
    congr 1
    · funext k
      pointwise
      exact blk0 m c t b i hb hi r _
    · funext k
      pointwise
      exact (blk11 m c t 0 _).trans (wq m c h k)
  · rw [wide_apply]
    pointwise
    exact (blk5 m c t b i hb hi r _).trans (tab27 m c _ ⟨h % 2, by omega⟩ d)
  · rw [wide_apply]
    pointwise
    exact (blk6 m c t b i hb hi r _).trans (tab30 m c _ ⟨h % 2, by omega⟩ d)
  · rw [wide_apply]
    pointwise
    exact (blk7 m c t b i hb hi r _).trans (tab33 m c _ ⟨h % 2, by omega⟩ d)

theorem ks_at (r : Fin 1024) (h : Fin 2) (d : Fin 64) :
    ks (iblk m c 1 t) (iblk m c 5 t) (iblk m c 6 t) (iblk m c 7 t) (iblk m c 12 t) (ix2 r ⟨64 * h + d, by omega⟩)
      = key (xk m c b) (yk m c) ⟨1024 * i + r, by omega⟩ h d := by
  unfold ks
  rw [ropeK_apply _ _ _ _ r h d (cosT ⟨1024 * i + r, by omega⟩) (sinT ⟨1024 * i + r, by omega⟩)]
  · unfold key
    congr 1
    funext k
    rw [normK_apply]
    congr 1
    · funext k
      pointwise
      exact blk1 m c t b i hb hi r _
    · funext k
      pointwise
      exact (blk12 m c t 0 _).trans (wk m c h k)
  · pointwise
    exact (blk5 m c t b i hb hi r _).trans (tab27 m c _ h d)
  · pointwise
    exact (blk6 m c t b i hb hi r _).trans (tab30 m c _ h d)
  · pointwise
    exact (blk7 m c t b i hb hi r _).trans (tab33 m c _ h d)

theorem kb_at (r : Fin 128) (h : Fin 2) (d : Fin 64) :
    kb (iblk m c 2 t) (iblk m c 8 t) (iblk m c 9 t) (iblk m c 10 t) (iblk m c 12 t) (ix2 r ⟨64 * h + d, by omega⟩)
      = key (xk m c b) (yk m c) ⟨128 * (8 * i - 1) + r, by omega⟩ h d := by
  unfold kb
  rw [ropeP_apply _ _ _ _ r h d (cosT ⟨128 * (8 * i - 1) + r, by omega⟩) (sinT ⟨128 * (8 * i - 1) + r, by omega⟩)]
  · unfold key
    congr 1
    funext k
    rw [normP_apply]
    congr 1
    · funext k
      pointwise
      exact blk2 m c t b i hb hi r _
    · funext k
      pointwise
      exact (blk12 m c t 0 _).trans (wk m c h k)
  · pointwise
    exact (blk8 m c t b i hb hi r _).trans (tab27 m c _ h d)
  · pointwise
    exact (blk9 m c t b i hb hi r _).trans (tab30 m c _ h d)
  · pointwise
    exact (blk10 m c t b i hb hi r _).trans (tab33 m c _ h d)

theorem vs_at (r : Fin 1024) (l : Fin 128) : vs (iblk m c 3 t) (ix2 r l) = xv m c b ⟨1024 * i + r, by omega⟩ l := by
  pointwise [vs]
  exact blk3 m c t b i hb hi r l

theorem vb_at (r l : Fin 128) : vb (iblk m c 4 t) (ix2 r l) = xv m c b ⟨128 * (8 * i - 1) + r, by omega⟩ l := by
  pointwise [vb]
  exact blk4 m c t b i hb hi r l

omit hb hi in
theorem sA_at (hh : Fin 4) (r : Fin 128) :
    sA (iblk m c 13 t) (ix2 ⟨128 * hh + r, by omega⟩ 0) = sk m c ⟨hh, by omega⟩ :=
  (sA_apply _ hh r).trans ((blk13 m c t _ _).trans (snk m c _ _))

omit hb hi in
theorem sB_at (hh : Fin 4) (r : Fin 128) :
    sB (iblk m c 13 t) (ix2 ⟨128 * hh + r, by omega⟩ 0) = sk m c ⟨4 + hh, by omega⟩ :=
  (sB_apply _ hh r).trans ((blk13 m c t _ _).trans (snk m c _ _))

end points

/-- One block of 128 positions, from what its operands hold. -/
theorem piece (b i : Fin 4) (s : Fin 8) (mp : IVec S512x128 1) (q : FVec Ideal S128x512 .f32) (kc kp vc vp : FVec Ideal S128x128 .f32)
    (sa sb : FVec Ideal S512x1 .f32)
    (hm : ∀ (hh : Fin 4) (r j : Fin 128), mp (ix2 ⟨128 * hh + r, by omega⟩ j) = 1#1 ↔ ((r : ℕ) < j ∧ 0 < 8 * (i : ℕ) + s))
    (hq : ∀ (r : Fin 128) (h : Fin 8) (d : Fin 64), q (ix2 r ⟨64 * h + d, by omega⟩) = qry (xq m c b) (yq m c) ⟨1024 * i + 128 * s + r, by omega⟩ h d)
    (hkc : ∀ (r : Fin 128) (h : Fin 2) (d : Fin 64), kc (ix2 r ⟨64 * h + d, by omega⟩) = key (xk m c b) (yk m c) ⟨1024 * i + 128 * s + r, by omega⟩ h d)
    (hkp : ∀ (r : Fin 128) (h : Fin 2) (d : Fin 64), kp (ix2 r ⟨64 * h + d, by omega⟩) = key (xk m c b) (yk m c) ⟨128 * (8 * i + s - 1) + r, by omega⟩ h d)
    (hvc : ∀ r l : Fin 128, vc (ix2 r l) = xv m c b ⟨1024 * i + 128 * s + r, by omega⟩ l)
    (hvp : ∀ r l : Fin 128, vp (ix2 r l) = xv m c b ⟨128 * (8 * i + s - 1) + r, by omega⟩ l)
    (hsa : ∀ (hh : Fin 4) (r : Fin 128), sa (ix2 ⟨128 * hh + r, by omega⟩ 0) = sk m c ⟨hh, by omega⟩)
    (hsb : ∀ (hh : Fin 4) (r : Fin 128), sb (ix2 ⟨128 * hh + r, by omega⟩ 0) = sk m c ⟨4 + hh, by omega⟩)
    (x : S1x128x512.Idx) (j : S4x4096x512.Idx) (h0 : (j 0 : ℕ) = b) (h1 : (j 1 : ℕ) = 1024 * i + 128 * s + (x 1 : ℕ)) (h2 : (j 2 : ℕ) = x 2) :
    block maskC mp q kc kp vc vp sa sb x = G m c j := by
  idx_vars x
  have hx1 : (x1 : ℕ) < 128 := x1.isLt
  have hx2 : (x2 : ℕ) < 512 := x2.isLt
  obtain rfl : x0 = 0 := Subsingleton.elim _ _
  idx_vars j
  obtain rfl : j0 = b := Fin.ext h0
  have e1 : (j1 : ℕ) = 1024 * i + 128 * s + x1 := h1
  have e2 : (j2 : ℕ) = x2 := h2
  obtain ⟨h, hh⟩ : ∃ h : Fin 8, (h : ℕ) = x2 / 64 := ⟨⟨x2 / 64, by omega⟩, rfl⟩
  obtain ⟨d, hd⟩ : ∃ d : Fin 64, (d : ℕ) = x2 % 64 := ⟨⟨x2 % 64, by omega⟩, rfl⟩
  have hl : x2 = ⟨64 * h + d, by omega⟩ := Fin.ext (by simp only []; omega)
  have hG : G m c (ix3 j0 j1 j2) = attn (xq m c j0) (xk m c j0) (xv m c j0) (yq m c) (yk m c) (sk m c) j1 h d := by
    show attn _ _ _ _ _ _ j1 ⟨(j2 : ℕ) / 64, _⟩ ⟨(j2 : ℕ) % 64, _⟩ = _
    congr 1
    · exact Fin.ext (by simp only []; omega)
    · exact Fin.ext (by simp only []; omega)
  rw [hG, hl, block_apply maskC mp q kc kp vc vp sa sb (fun r j => (j : ℕ) ≤ r) (fun r j => (r : ℕ) < j ∧ 0 < 8 * (i : ℕ) + s)
    maskC_iff hm]
  have et : (j1 : ℕ) % 128 = x1 := by omega
  have ed : (j1 : ℕ) / 128 = 8 * i + s := by omega
  have ej : (⟨1024 * i + 128 * s + x1, by omega⟩ : Fin 4096) = j1 := Fin.ext (by simp only []; omega)
  unfold attn
  congr 1
  · refine scr_congr (fun j => by rw [et]) (fun k => by rw [hq, ej]) fun j k => ?_
    refine (hkc j ⟨h / 4, by omega⟩ k).trans ?_
    congr 1
    exact Fin.ext (by simp only []; omega)
  · refine scr_congr (fun j => by rw [et, ed]) (fun k => by rw [hq, ej]) fun j k => ?_
    refine (hkp j ⟨h / 4, by omega⟩ k).trans ?_
    congr 1
    exact Fin.ext (by simp only []; omega)
  · by_cases h4 : (h : ℕ) < 4
    · rw [if_pos h4, hsa ⟨h % 4, by omega⟩ x1]
      congr 1
      exact Fin.ext (by simp only []; omega)
    · rw [if_neg h4, hsb ⟨h % 4, by omega⟩ x1]
      congr 1
      exact Fin.ext (by simp only []; omega)
  · funext j
    rw [hvc]
    congr 1
    exact Fin.ext (by simp only []; omega)
  · funext j
    rw [hvp]
    congr 1
    exact Fin.ext (by simp only []; omega)

theorem slQ0 (x : FVec Ideal S1024x512 .f32) (r : Fin 128) (l : Fin 512) :
    extractStridedSlice S128x512 ![0, 0] x slices_S1024x512_o0_0_S128x512 (ix2 r l) = x (ix2 ⟨0 + r, by omega⟩ l) := by
  pointwise

theorem slQ128 (x : FVec Ideal S1024x512 .f32) (r : Fin 128) (l : Fin 512) :
    extractStridedSlice S128x512 ![128, 0] x slices_S1024x512_o128_0_S128x512 (ix2 r l) = x (ix2 ⟨128 + r, by omega⟩ l) := by
  pointwise

theorem slQ256 (x : FVec Ideal S1024x512 .f32) (r : Fin 128) (l : Fin 512) :
    extractStridedSlice S128x512 ![256, 0] x slices_S1024x512_o256_0_S128x512 (ix2 r l) = x (ix2 ⟨256 + r, by omega⟩ l) := by
  pointwise

theorem slQ384 (x : FVec Ideal S1024x512 .f32) (r : Fin 128) (l : Fin 512) :
    extractStridedSlice S128x512 ![384, 0] x slices_S1024x512_o384_0_S128x512 (ix2 r l) = x (ix2 ⟨384 + r, by omega⟩ l) := by
  pointwise

theorem slQ512 (x : FVec Ideal S1024x512 .f32) (r : Fin 128) (l : Fin 512) :
    extractStridedSlice S128x512 ![512, 0] x slices_S1024x512_o512_0_S128x512 (ix2 r l) = x (ix2 ⟨512 + r, by omega⟩ l) := by
  pointwise

theorem slQ640 (x : FVec Ideal S1024x512 .f32) (r : Fin 128) (l : Fin 512) :
    extractStridedSlice S128x512 ![640, 0] x slices_S1024x512_o640_0_S128x512 (ix2 r l) = x (ix2 ⟨640 + r, by omega⟩ l) := by
  pointwise

theorem slQ768 (x : FVec Ideal S1024x512 .f32) (r : Fin 128) (l : Fin 512) :
    extractStridedSlice S128x512 ![768, 0] x slices_S1024x512_o768_0_S128x512 (ix2 r l) = x (ix2 ⟨768 + r, by omega⟩ l) := by
  pointwise

theorem slQ896 (x : FVec Ideal S1024x512 .f32) (r : Fin 128) (l : Fin 512) :
    extractStridedSlice S128x512 ![896, 0] x slices_S1024x512_o896_0_S128x512 (ix2 r l) = x (ix2 ⟨896 + r, by omega⟩ l) := by
  pointwise

theorem slK0 (x : FVec Ideal S1024x128 .f32) (r : Fin 128) (l : Fin 128) :
    extractStridedSlice S128x128 ![0, 0] x slices_S1024x128_o0_0_S128x128 (ix2 r l) = x (ix2 ⟨0 + r, by omega⟩ l) := by
  pointwise

theorem slK128 (x : FVec Ideal S1024x128 .f32) (r : Fin 128) (l : Fin 128) :
    extractStridedSlice S128x128 ![128, 0] x slices_S1024x128_o128_0_S128x128 (ix2 r l) = x (ix2 ⟨128 + r, by omega⟩ l) := by
  pointwise

theorem slK256 (x : FVec Ideal S1024x128 .f32) (r : Fin 128) (l : Fin 128) :
    extractStridedSlice S128x128 ![256, 0] x slices_S1024x128_o256_0_S128x128 (ix2 r l) = x (ix2 ⟨256 + r, by omega⟩ l) := by
  pointwise

theorem slK384 (x : FVec Ideal S1024x128 .f32) (r : Fin 128) (l : Fin 128) :
    extractStridedSlice S128x128 ![384, 0] x slices_S1024x128_o384_0_S128x128 (ix2 r l) = x (ix2 ⟨384 + r, by omega⟩ l) := by
  pointwise

theorem slK512 (x : FVec Ideal S1024x128 .f32) (r : Fin 128) (l : Fin 128) :
    extractStridedSlice S128x128 ![512, 0] x slices_S1024x128_o512_0_S128x128 (ix2 r l) = x (ix2 ⟨512 + r, by omega⟩ l) := by
  pointwise

theorem slK640 (x : FVec Ideal S1024x128 .f32) (r : Fin 128) (l : Fin 128) :
    extractStridedSlice S128x128 ![640, 0] x slices_S1024x128_o640_0_S128x128 (ix2 r l) = x (ix2 ⟨640 + r, by omega⟩ l) := by
  pointwise

theorem slK768 (x : FVec Ideal S1024x128 .f32) (r : Fin 128) (l : Fin 128) :
    extractStridedSlice S128x128 ![768, 0] x slices_S1024x128_o768_0_S128x128 (ix2 r l) = x (ix2 ⟨768 + r, by omega⟩ l) := by
  pointwise

theorem slK896 (x : FVec Ideal S1024x128 .f32) (r : Fin 128) (l : Fin 128) :
    extractStridedSlice S128x128 ![896, 0] x slices_S1024x128_o896_0_S128x128 (ix2 r l) = x (ix2 ⟨896 + r, by omega⟩ l) := by
  pointwise

/-- The result array after the run. -/
theorem final : (dats m 0 c).arrAt 14 cfg0.N = G m c := by
  refine Dat.arrAt_eq_of_covers (dats m 0 c) 14 (G m c) (by decide +kernel) fun t hf y => ?_
  obtain ⟨b, hb⟩ : ∃ b : Fin 4, (grid0.coords t 0).val = b := ⟨⟨_, (grid0.coords t 0).isLt⟩, rfl⟩
  obtain ⟨i, hi⟩ : ∃ i : Fin 4, (grid0.coords t 1).val = i := ⟨⟨_, (grid0.coords t 1).isLt⟩, rfl⟩
  have j0 : (((win0_14.blk t).view.emb y) 0 : ℕ) = b := by
    have hy := (y 0).isLt
    change (y 0 : ℕ) < 1 at hy
    blk_simp [idx t, hb, hi]
  have j1 : (((win0_14.blk t).view.emb y) 1 : ℕ) = 1024 * i + (y 1 : ℕ) := by
    blk_simp [idx t, hb, hi]
    omega
  have j2 : (((win0_14.blk t).view.emb y) 2 : ℕ) = (y 2 : ℕ) := by
    blk_simp [idx t, hb, hi]
  refine (congrFun (after0_14 m c t) _).trans ?_
  rw [out_eq, hi]
  canon_tiles x h
  case piece0 =>
    have e1 : (y 1 : ℕ) = 896 + (x 1 : ℕ) := h1
    have e2 : (y 2 : ℕ) = (x 2 : ℕ) := h2
    refine piece m c b i ⟨7, by omega⟩ maskP _ _ _ _ _ _ _ (fun hh r j => (maskP_iff hh r j).trans ⟨fun h => ⟨h, by simp only []; omega⟩, And.left⟩)
      (fun r h d => (slQ896 _ r _).trans ((qs_at m c t b i hb hi ⟨896 + r, by omega⟩ h d).trans (by congr 1; exact Fin.ext (by simp only []; omega))))
      (fun r h d => (slK896 _ r _).trans ((ks_at m c t b i hb hi ⟨896 + r, by omega⟩ h d).trans (by congr 1; exact Fin.ext (by simp only []; omega))))
      (fun r h d => (slK768 _ r _).trans ((ks_at m c t b i hb hi ⟨768 + r, by omega⟩ h d).trans (by congr 1; exact Fin.ext (by simp only []; omega))))
      (fun r l => (slK896 _ r _).trans ((vs_at m c t b i hb hi ⟨896 + r, by omega⟩ l).trans (by congr 1; exact Fin.ext (by simp only []; omega))))
      (fun r l => (slK768 _ r _).trans ((vs_at m c t b i hb hi ⟨768 + r, by omega⟩ l).trans (by congr 1; exact Fin.ext (by simp only []; omega))))
      (sA_at m c t b i) (sB_at m c t b i) x _ j0 (j1.trans (by simp only []; omega)) (j2.trans e2)
  case piece1 =>
    have e1 : (y 1 : ℕ) = 768 + (x 1 : ℕ) := h1
    have e2 : (y 2 : ℕ) = (x 2 : ℕ) := h2
    refine piece m c b i ⟨6, by omega⟩ maskP _ _ _ _ _ _ _ (fun hh r j => (maskP_iff hh r j).trans ⟨fun h => ⟨h, by simp only []; omega⟩, And.left⟩)
      (fun r h d => (slQ768 _ r _).trans ((qs_at m c t b i hb hi ⟨768 + r, by omega⟩ h d).trans (by congr 1; exact Fin.ext (by simp only []; omega))))
      (fun r h d => (slK768 _ r _).trans ((ks_at m c t b i hb hi ⟨768 + r, by omega⟩ h d).trans (by congr 1; exact Fin.ext (by simp only []; omega))))
      (fun r h d => (slK640 _ r _).trans ((ks_at m c t b i hb hi ⟨640 + r, by omega⟩ h d).trans (by congr 1; exact Fin.ext (by simp only []; omega))))
      (fun r l => (slK768 _ r _).trans ((vs_at m c t b i hb hi ⟨768 + r, by omega⟩ l).trans (by congr 1; exact Fin.ext (by simp only []; omega))))
      (fun r l => (slK640 _ r _).trans ((vs_at m c t b i hb hi ⟨640 + r, by omega⟩ l).trans (by congr 1; exact Fin.ext (by simp only []; omega))))
      (sA_at m c t b i) (sB_at m c t b i) x _ j0 (j1.trans (by simp only []; omega)) (j2.trans e2)
  case piece2 =>
    have e1 : (y 1 : ℕ) = 640 + (x 1 : ℕ) := h1
    have e2 : (y 2 : ℕ) = (x 2 : ℕ) := h2
    refine piece m c b i ⟨5, by omega⟩ maskP _ _ _ _ _ _ _ (fun hh r j => (maskP_iff hh r j).trans ⟨fun h => ⟨h, by simp only []; omega⟩, And.left⟩)
      (fun r h d => (slQ640 _ r _).trans ((qs_at m c t b i hb hi ⟨640 + r, by omega⟩ h d).trans (by congr 1; exact Fin.ext (by simp only []; omega))))
      (fun r h d => (slK640 _ r _).trans ((ks_at m c t b i hb hi ⟨640 + r, by omega⟩ h d).trans (by congr 1; exact Fin.ext (by simp only []; omega))))
      (fun r h d => (slK512 _ r _).trans ((ks_at m c t b i hb hi ⟨512 + r, by omega⟩ h d).trans (by congr 1; exact Fin.ext (by simp only []; omega))))
      (fun r l => (slK640 _ r _).trans ((vs_at m c t b i hb hi ⟨640 + r, by omega⟩ l).trans (by congr 1; exact Fin.ext (by simp only []; omega))))
      (fun r l => (slK512 _ r _).trans ((vs_at m c t b i hb hi ⟨512 + r, by omega⟩ l).trans (by congr 1; exact Fin.ext (by simp only []; omega))))
      (sA_at m c t b i) (sB_at m c t b i) x _ j0 (j1.trans (by simp only []; omega)) (j2.trans e2)
  case piece3 =>
    have e1 : (y 1 : ℕ) = 512 + (x 1 : ℕ) := h1
    have e2 : (y 2 : ℕ) = (x 2 : ℕ) := h2
    refine piece m c b i ⟨4, by omega⟩ maskP _ _ _ _ _ _ _ (fun hh r j => (maskP_iff hh r j).trans ⟨fun h => ⟨h, by simp only []; omega⟩, And.left⟩)
      (fun r h d => (slQ512 _ r _).trans ((qs_at m c t b i hb hi ⟨512 + r, by omega⟩ h d).trans (by congr 1; exact Fin.ext (by simp only []; omega))))
      (fun r h d => (slK512 _ r _).trans ((ks_at m c t b i hb hi ⟨512 + r, by omega⟩ h d).trans (by congr 1; exact Fin.ext (by simp only []; omega))))
      (fun r h d => (slK384 _ r _).trans ((ks_at m c t b i hb hi ⟨384 + r, by omega⟩ h d).trans (by congr 1; exact Fin.ext (by simp only []; omega))))
      (fun r l => (slK512 _ r _).trans ((vs_at m c t b i hb hi ⟨512 + r, by omega⟩ l).trans (by congr 1; exact Fin.ext (by simp only []; omega))))
      (fun r l => (slK384 _ r _).trans ((vs_at m c t b i hb hi ⟨384 + r, by omega⟩ l).trans (by congr 1; exact Fin.ext (by simp only []; omega))))
      (sA_at m c t b i) (sB_at m c t b i) x _ j0 (j1.trans (by simp only []; omega)) (j2.trans e2)
  case piece4 =>
    have e1 : (y 1 : ℕ) = 384 + (x 1 : ℕ) := h1
    have e2 : (y 2 : ℕ) = (x 2 : ℕ) := h2
    refine piece m c b i ⟨3, by omega⟩ maskP _ _ _ _ _ _ _ (fun hh r j => (maskP_iff hh r j).trans ⟨fun h => ⟨h, by simp only []; omega⟩, And.left⟩)
      (fun r h d => (slQ384 _ r _).trans ((qs_at m c t b i hb hi ⟨384 + r, by omega⟩ h d).trans (by congr 1; exact Fin.ext (by simp only []; omega))))
      (fun r h d => (slK384 _ r _).trans ((ks_at m c t b i hb hi ⟨384 + r, by omega⟩ h d).trans (by congr 1; exact Fin.ext (by simp only []; omega))))
      (fun r h d => (slK256 _ r _).trans ((ks_at m c t b i hb hi ⟨256 + r, by omega⟩ h d).trans (by congr 1; exact Fin.ext (by simp only []; omega))))
      (fun r l => (slK384 _ r _).trans ((vs_at m c t b i hb hi ⟨384 + r, by omega⟩ l).trans (by congr 1; exact Fin.ext (by simp only []; omega))))
      (fun r l => (slK256 _ r _).trans ((vs_at m c t b i hb hi ⟨256 + r, by omega⟩ l).trans (by congr 1; exact Fin.ext (by simp only []; omega))))
      (sA_at m c t b i) (sB_at m c t b i) x _ j0 (j1.trans (by simp only []; omega)) (j2.trans e2)
  case piece5 =>
    have e1 : (y 1 : ℕ) = 256 + (x 1 : ℕ) := h1
    have e2 : (y 2 : ℕ) = (x 2 : ℕ) := h2
    refine piece m c b i ⟨2, by omega⟩ maskP _ _ _ _ _ _ _ (fun hh r j => (maskP_iff hh r j).trans ⟨fun h => ⟨h, by simp only []; omega⟩, And.left⟩)
      (fun r h d => (slQ256 _ r _).trans ((qs_at m c t b i hb hi ⟨256 + r, by omega⟩ h d).trans (by congr 1; exact Fin.ext (by simp only []; omega))))
      (fun r h d => (slK256 _ r _).trans ((ks_at m c t b i hb hi ⟨256 + r, by omega⟩ h d).trans (by congr 1; exact Fin.ext (by simp only []; omega))))
      (fun r h d => (slK128 _ r _).trans ((ks_at m c t b i hb hi ⟨128 + r, by omega⟩ h d).trans (by congr 1; exact Fin.ext (by simp only []; omega))))
      (fun r l => (slK256 _ r _).trans ((vs_at m c t b i hb hi ⟨256 + r, by omega⟩ l).trans (by congr 1; exact Fin.ext (by simp only []; omega))))
      (fun r l => (slK128 _ r _).trans ((vs_at m c t b i hb hi ⟨128 + r, by omega⟩ l).trans (by congr 1; exact Fin.ext (by simp only []; omega))))
      (sA_at m c t b i) (sB_at m c t b i) x _ j0 (j1.trans (by simp only []; omega)) (j2.trans e2)
  case piece6 =>
    have e1 : (y 1 : ℕ) = 128 + (x 1 : ℕ) := h1
    have e2 : (y 2 : ℕ) = (x 2 : ℕ) := h2
    refine piece m c b i ⟨1, by omega⟩ maskP _ _ _ _ _ _ _ (fun hh r j => (maskP_iff hh r j).trans ⟨fun h => ⟨h, by simp only []; omega⟩, And.left⟩)
      (fun r h d => (slQ128 _ r _).trans ((qs_at m c t b i hb hi ⟨128 + r, by omega⟩ h d).trans (by congr 1; exact Fin.ext (by simp only []; omega))))
      (fun r h d => (slK128 _ r _).trans ((ks_at m c t b i hb hi ⟨128 + r, by omega⟩ h d).trans (by congr 1; exact Fin.ext (by simp only []; omega))))
      (fun r h d => (slK0 _ r _).trans ((ks_at m c t b i hb hi ⟨0 + r, by omega⟩ h d).trans (by congr 1; exact Fin.ext (by simp only []; omega))))
      (fun r l => (slK128 _ r _).trans ((vs_at m c t b i hb hi ⟨128 + r, by omega⟩ l).trans (by congr 1; exact Fin.ext (by simp only []; omega))))
      (fun r l => (slK0 _ r _).trans ((vs_at m c t b i hb hi ⟨0 + r, by omega⟩ l).trans (by congr 1; exact Fin.ext (by simp only []; omega))))
      (sA_at m c t b i) (sB_at m c t b i) x _ j0 (j1.trans (by simp only []; omega)) (j2.trans e2)
  case piece7 =>
    have e1 : (y 1 : ℕ) = 0 + (x 1 : ℕ) := h1.trans (Nat.zero_add _).symm
    have e2 : (y 2 : ℕ) = (x 2 : ℕ) := h2
    refine piece m c b i ⟨0, by omega⟩ (maskP0 (BitVec.ofNat 32 i)) _ _ _ _ _ _ _ (fun hh r j => (maskP0_iff i hh r j).trans ⟨fun h => ⟨h.1, by simp only []; omega⟩, fun h => ⟨h.1, by have := h.2; simp only [] at this; omega⟩⟩)
      (fun r h d => (slQ0 _ r _).trans ((qs_at m c t b i hb hi ⟨0 + r, by omega⟩ h d).trans (by congr 1; exact Fin.ext (by simp only []; omega))))
      (fun r h d => (slK0 _ r _).trans ((ks_at m c t b i hb hi ⟨0 + r, by omega⟩ h d).trans (by congr 1; exact Fin.ext (by simp only []; omega))))
      (fun r h d => (kb_at m c t b i hb hi r h d).trans (by congr 1))
      (fun r l => (slK0 _ r _).trans ((vs_at m c t b i hb hi ⟨0 + r, by omega⟩ l).trans (by congr 1; exact Fin.ext (by simp only []; omega))))
      (fun r l => (vb_at m c t b i hb hi r l).trans (by congr 1))
      (sA_at m c t b i) (sB_at m c t b i) x _ j0 (j1.trans (by simp only []; omega)) (j2.trans e2)

end Cert.KernelIdeal.Att
-- ==== Proof.RVal.lean ====
/-
  The reference's result at an index: the softmax with a sink over 256 keys, of normalised and rotated rows.
-/
module

public import proofs.«01_k».proof.Proof.Gen.ReferenceIdeal.Read
public import proofs.«01_k».proof.Proof.Spec
public import Idealize.ShloMosaic.Lib.Pointwise

@[expose] public section

set_option maxRecDepth 16384

noncomputable section

namespace Cert.ReferenceIdeal.Att

open Idealize.ShloMosaic Idealize.ShloMosaic.TcCoe Idealize.SL.Sem Cert.ReferenceIdeal Cert.ReferenceIdeal.Gen Cert.ReferenceIdeal.Read Cert.Att

variable (x0 : FVec Ideal S4x4096x512 .f32) (x1 x2 : FVec Ideal S4x4096x128 .f32) (x3 x4 : FVec Ideal S64 .f32) (x5 : FVec Ideal S8 .f32)

/-- The rotary embedding with its cases nested the other way. -/
theorem rot_alt (cs sn : Fin 8 → EReal) (y : Fin 64 → EReal) (d : Fin 64) :
    (if h : (d : ℕ) < 16 then
      if h2 : (d : ℕ) < 8 then y d * cs ⟨d, h2⟩ - y ⟨8 + d, by omega⟩ * sn ⟨d, h2⟩
      else y ⟨8 + (d - 8), by omega⟩ * cs ⟨d - 8, by omega⟩ + y ⟨d - 8, by omega⟩ * sn ⟨d - 8, by omega⟩
    else y ⟨16 + (d - 16), by omega⟩) = rot cs sn y d := by
  unfold rot
  by_cases h8 : (d : ℕ) < 8
  · have e : (⟨8 + d, by omega⟩ : Fin 64) = ⟨d + 8, by omega⟩ := Fin.ext (Nat.add_comm _ _)
    rw [dif_pos (show (d : ℕ) < 16 by omega), dif_pos h8, dif_pos h8, e]
  by_cases h16 : (d : ℕ) < 16
  · have e : (⟨8 + (d - 8), by omega⟩ : Fin 64) = d := Fin.ext (by simp only []; omega)
    rw [dif_pos h16, dif_neg h8, dif_neg h8, dif_pos h16, e]
  · have e : (⟨16 + (d - 16), by omega⟩ : Fin 64) = d := Fin.ext (by simp only []; omega)
    rw [dif_neg h16, dif_neg h8, dif_neg h16, e]

theorem nrm_q (b : Fin 4) (t : Fin 4096) (h : Fin 8) (d : Fin 64) :
    val_main_v16 (F := Ideal) x0 x3 (ix4 b t h d) = nrm (fun k => x0 (ix3 b t ⟨64 * h + k, by omega⟩)) (fun k => x3 (ix1 k)) d := by
  pointwise [val_main_v1, val_main_v2, val_main_v3, val_main_v4, val_main_v5, val_main_v6, val_main_v7, val_main_v8, val_main_v9, val_main_v10, val_main_v11, val_main_v12, val_main_v13, val_main_v14, val_main_v15, val_main_v16, val_main_cst, val_main_cst_0, val_main_cst_1, nrm]
  simp only [Nat.mul_comm (h : ℕ) 64]

theorem cos_q (t : Fin 4096) (f : Fin 8) : val_main_v31 (F := Ideal) (ix2 t f) = cosT t f := by
  pointwise [val_main_v17, val_main_v18, val_main_v19, val_main_v20, val_main_v21, val_main_v22, val_main_v23, val_main_v24, val_main_v25, val_main_v26, val_main_v27, val_main_v28, val_main_v29, val_main_v30, val_main_v31, val_main_v0, val_main_cst_2, val_main_cst_3, val_main_cst_4, cosT, ang]

theorem sin_q (t : Fin 4096) (f : Fin 8) : val_main_v33 (F := Ideal) (ix2 t f) = sinT t f := by
  pointwise [val_main_v17, val_main_v18, val_main_v19, val_main_v20, val_main_v21, val_main_v22, val_main_v23, val_main_v24, val_main_v25, val_main_v26, val_main_v27, val_main_v28, val_main_v29, val_main_v30, val_main_v31, val_main_v32, val_main_v33, val_main_v0, val_main_cst_2, val_main_cst_3, val_main_cst_4, sinT, ang]

theorem at_q (b : Fin 4) (t : Fin 4096) (h : Fin 8) (d : Fin 64) :
    val_main_v50 (F := Ideal) x0 x3 (ix4 b t h d) = qry (fun t l => x0 (ix3 b t l)) (fun k => x3 (ix1 k)) t h d := by
  pointwise [val_main_v35, val_main_v36, val_main_v37, val_main_v38, val_main_v39, val_main_v40, val_main_v41, val_main_v42, val_main_v43, val_main_v44, val_main_v45, val_main_v46, val_main_v47, val_main_v48, val_main_v49, val_main_v50, val_main_v32, val_main_v34]
  simp only [nrm_q, cos_q, sin_q]
  simp only [qry]
  exact rot_alt (cosT t) (sinT t) _ d

theorem nrm_k (b : Fin 4) (t : Fin 4096) (h : Fin 2) (d : Fin 64) :
    val_main_v63 (F := Ideal) x1 x4 (ix4 b t h d) = nrm (fun k => x1 (ix3 b t ⟨64 * h + k, by omega⟩)) (fun k => x4 (ix1 k)) d := by
  pointwise [val_main_v2, val_main_v51, val_main_v52, val_main_v53, val_main_v54, val_main_v55, val_main_v56, val_main_v57, val_main_v58, val_main_v59, val_main_v60, val_main_v61, val_main_v62, val_main_v63, val_main_cst_5, val_main_cst_6, val_main_cst_7, nrm]
  simp only [Nat.mul_comm (h : ℕ) 64]

theorem cos_k (t : Fin 4096) (f : Fin 8) : val_main_v78 (F := Ideal) (ix2 t f) = cosT t f := by
  pointwise [val_main_v64, val_main_v65, val_main_v66, val_main_v67, val_main_v68, val_main_v69, val_main_v70, val_main_v71, val_main_v72, val_main_v73, val_main_v74, val_main_v75, val_main_v76, val_main_v77, val_main_v78, val_main_v0, val_main_cst_8, val_main_cst_9, val_main_cst_10, cosT, ang]

theorem sin_k (t : Fin 4096) (f : Fin 8) : val_main_v80 (F := Ideal) (ix2 t f) = sinT t f := by
  pointwise [val_main_v64, val_main_v65, val_main_v66, val_main_v67, val_main_v68, val_main_v69, val_main_v70, val_main_v71, val_main_v72, val_main_v73, val_main_v74, val_main_v75, val_main_v76, val_main_v77, val_main_v78, val_main_v79, val_main_v80, val_main_v0, val_main_cst_8, val_main_cst_9, val_main_cst_10, sinT, ang]

theorem at_k (b : Fin 4) (t : Fin 4096) (h : Fin 2) (d : Fin 64) :
    val_main_v97 (F := Ideal) x1 x4 (ix4 b t h d) = key (fun t l => x1 (ix3 b t l)) (fun k => x4 (ix1 k)) t h d := by
  pointwise [val_main_v82, val_main_v83, val_main_v84, val_main_v85, val_main_v86, val_main_v87, val_main_v88, val_main_v89, val_main_v90, val_main_v91, val_main_v92, val_main_v93, val_main_v94, val_main_v95, val_main_v96, val_main_v97, val_main_v79, val_main_v81]
  simp only [nrm_k, cos_k, sin_k]
  simp only [key]
  exact rot_alt (cosT t) (sinT t) _ d

theorem kk_cur (b : Fin 4) (n : Fin 32) (j : Fin 128) (g : Fin 2) (d : Fin 64) :
    val_main_v102 (F := Ideal) x1 x4 (ix5 b n ⟨128 + j, by omega⟩ g d) = key (fun t l => x1 (ix3 b t l)) (fun k => x4 (ix1 k)) ⟨128 * n + j, by omega⟩ g d := by
  pointwise [val_main_v102, val_main_v101, val_main_v100, val_main_v99]
  refine (at_k x1 x4 b _ g d).trans ?_
  exact congrArg (fun t => key (fun t l => x1 (ix3 b t l)) (fun k => x4 (ix1 k)) t g d) (Fin.ext (by simp only []; omega))

theorem kk_prev (b : Fin 4) (n : Fin 32) (hn : 0 < (n : ℕ)) (j : Fin 128) (g : Fin 2) (d : Fin 64) :
    val_main_v102 (F := Ideal) x1 x4 (ix5 b n ⟨j, by omega⟩ g d) = key (fun t l => x1 (ix3 b t l)) (fun k => x4 (ix1 k)) ⟨128 * (n - 1) + j, by omega⟩ g d := by
  pointwise [val_main_v102, val_main_v101, val_main_v100, val_main_v99]
  refine (dif_pos ?_).trans ?_
  · omega
  refine (at_k x1 x4 b _ g d).trans ?_
  exact congrArg (fun t => key (fun t l => x1 (ix3 b t l)) (fun k => x4 (ix1 k)) t g d) (Fin.ext (by simp only []; omega))

theorem vv_cur (b : Fin 4) (n : Fin 32) (j : Fin 128) (g : Fin 2) (d : Fin 64) :
    val_main_v106 (F := Ideal) x2 (ix5 b n ⟨128 + j, by omega⟩ g d) = x2 (ix3 b ⟨128 * n + j, by omega⟩ ⟨64 * g + d, by omega⟩) := by
  pointwise [val_main_v106, val_main_v105, val_main_v104, val_main_v103, val_main_v3]
  exact congrArg₂ (fun t l => x2 (ix3 b t l)) (Fin.ext (by simp only []; omega)) (Fin.ext (by simp only []; omega))

theorem vv_prev (b : Fin 4) (n : Fin 32) (hn : 0 < (n : ℕ)) (j : Fin 128) (g : Fin 2) (d : Fin 64) :
    val_main_v106 (F := Ideal) x2 (ix5 b n ⟨j, by omega⟩ g d) = x2 (ix3 b ⟨128 * (n - 1) + j, by omega⟩ ⟨64 * g + d, by omega⟩) := by
  pointwise [val_main_v106, val_main_v105, val_main_v104, val_main_v103, val_main_v3]
  refine (dif_pos ?_).trans ?_
  · omega
  exact congrArg₂ (fun t l => x2 (ix3 b t l)) (Fin.ext (by simp only []; omega)) (Fin.ext (by simp only []; omega))

theorem qq (b : Fin 4) (n : Fin 32) (r : Fin 128) (g : Fin 2) (h : Fin 4) (d : Fin 64) :
    val_main_v98 (F := Ideal) x0 x3 (ix6 b n r g h d) = qry (fun t l => x0 (ix3 b t l)) (fun k => x3 (ix1 k)) ⟨128 * n + r, by omega⟩ ⟨4 * g + h, by omega⟩ d := by
  pointwise [val_main_v98]
  refine (at_q x0 x3 b _ _ d).trans ?_
  exact congrArg₂ (fun t h => qry (fun t l => x0 (ix3 b t l)) (fun k => x3 (ix1 k)) t h d) (Fin.ext (by simp only []; omega)) (Fin.ext (by simp only []; omega))

/-- The mask's window: a key at most the query's position and fewer than 128 before it. -/
def win (r : Fin 128) (s : Fin 256) : BitVec 1 := if (s : ℕ) ≤ r + 128 ∧ (r : ℕ) < s then 1#1 else 0#1

/-- The mask's first block: no keys before the sequence. -/
def fst (n : Fin 32) (s : Fin 256) : BitVec 1 := if 0 < (n : ℕ) ∨ 128 ≤ (s : ℕ) then 1#1 else 0#1

theorem win_eq : ∀ (r : Fin 128) (s : Fin 256), IntOp.andi (IntOp.cmpi .sge (IntOp.subi (IntOp.addi (BitVec.ofNat 32 r) 128#32) (BitVec.ofNat 32 s)) 0#32)
    (IntOp.cmpi .slt (IntOp.subi (IntOp.addi (BitVec.ofNat 32 r) 128#32) (BitVec.ofNat 32 s)) 128#32) = win r s := by
  decide +kernel

theorem fst_eq : ∀ (n : Fin 32) (s : Fin 256), IntOp.cmpi .sge (IntOp.addi (IntOp.muli (IntOp.subi (BitVec.ofNat 32 n) 1#32) 128#32) (BitVec.ofNat 32 s)) 0#32 = fst n s := by
  decide +kernel

theorem ss (b : Fin 4) (n : Fin 32) (g : Fin 2) (h : Fin 4) (r : Fin 128) (s : Fin 256) :
    val_main_v143 (F := Ideal) x0 x1 x3 x4 (ix6 b n g h r s) = if (((s : ℕ) ≤ r + 128 ∧ (r : ℕ) < s) ∧ (0 < (n : ℕ) ∨ 128 ≤ (s : ℕ))) then
      (∑ d : Fin 64, val_main_v98 (F := Ideal) x0 x3 (ix6 b n r g h d) * val_main_v102 (F := Ideal) x1 x4 (ix5 b n s g d)) * Ideal.ofBits .f32 0x3E000000#32 else negInf := by
  pointwise [val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_cst_12, val_main_cst_19, val_main_c_13, val_main_c_14, val_main_c_15, val_main_c_16, val_main_c_17, val_main_c_18, val_main_call2_v0, val_main_call2_v1, val_main_call2_v2]
  rewrite [win_eq, fst_eq]
  have hs : (∑ x : Fin 64, val_main_v102 (F := Ideal) x1 x4 (ix5 b n s g x) * val_main_v98 (F := Ideal) x0 x3 (ix6 b n r g h x) : EReal)
      = ∑ x : Fin 64, val_main_v98 (F := Ideal) x0 x3 (ix6 b n r g h x) * val_main_v102 (F := Ideal) x1 x4 (ix5 b n s g x) :=
    Finset.sum_congr rfl fun x _ => mul_comm _ _
  refine Eq.trans ?_ (if_congr Iff.rfl (congrArg (fun z : EReal => z * Ideal.ofBits .f32 0x3E000000#32) hs) rfl)
  unfold win fst
  by_cases hw : (s : ℕ) ≤ r + 128 ∧ (r : ℕ) < s
  · by_cases hf : 0 < (n : ℕ) ∨ 128 ≤ (s : ℕ)
    · rewrite [if_pos hw, if_pos hf, if_pos ⟨hw, hf⟩]
      rfl
    · rewrite [if_pos hw, if_neg hf, if_neg (fun h => hf (And.right h))]
      rfl
  · rewrite [if_neg hw]
    have hz : ∀ c : BitVec 1, IntOp.andi 0#1 c = 0#1 := by decide
    rewrite [hz, if_neg (fun h => hw (And.left h))]
    rfl

/-- The scores of a query's own block. -/
theorem ss_cur (b : Fin 4) (n : Fin 32) (g : Fin 2) (h : Fin 4) (r j : Fin 128) :
    val_main_v143 (F := Ideal) x0 x1 x3 x4 (ix6 b n g h r ⟨128 + j, by omega⟩)
      = scr (fun j => (j : ℕ) ≤ r) (qry (fun t l => x0 (ix3 b t l)) (fun k => x3 (ix1 k)) ⟨128 * n + r, by omega⟩ ⟨4 * g + h, by omega⟩)
        (fun j => key (fun t l => x1 (ix3 b t l)) (fun k => x4 (ix1 k)) ⟨128 * n + j, by omega⟩ g) j := by
  refine (ss x0 x1 x3 x4 b n g h r _).trans ?_
  unfold scr
  refine if_congr ?_ ?_ rfl
  · simp only []
    omega
  · simp only [qq, kk_cur]

/-- The scores of the block before. -/
theorem ss_prev (b : Fin 4) (n : Fin 32) (g : Fin 2) (h : Fin 4) (r j : Fin 128) :
    val_main_v143 (F := Ideal) x0 x1 x3 x4 (ix6 b n g h r ⟨j, by omega⟩)
      = scr (fun j => (r : ℕ) < j ∧ 0 < (n : ℕ)) (qry (fun t l => x0 (ix3 b t l)) (fun k => x3 (ix1 k)) ⟨128 * n + r, by omega⟩ ⟨4 * g + h, by omega⟩)
        (fun j => key (fun t l => x1 (ix3 b t l)) (fun k => x4 (ix1 k)) ⟨128 * (n - 1) + j, by omega⟩ g) j := by
  refine (ss x0 x1 x3 x4 b n g h r _).trans ?_
  unfold scr
  by_cases hn : 0 < (n : ℕ)
  · refine if_congr ?_ ?_ rfl
    · simp only []
      omega
    · simp only [qq, kk_prev x1 x4 b n hn]
  · refine (if_neg ?_).trans (if_neg ?_).symm
    · simp only []
      omega
    · omega

end Cert.ReferenceIdeal.Att
-- ==== Proof.ROut.lean ====
/-
  The reference's softmax with a sink, stage by stage, from its scores and values.
-/
module

public import proofs.«01_k».proof.Proof.Gen.ReferenceIdeal.Read
public import proofs.«01_k».proof.Proof.Spec
public import Idealize.ShloMosaic.Lib.Pointwise

@[expose] public section

set_option maxRecDepth 16384

noncomputable section

namespace Cert.ReferenceIdeal.Att

open Idealize.ShloMosaic Idealize.ShloMosaic.TcCoe Idealize.SL.Sem Cert.ReferenceIdeal Cert.ReferenceIdeal.Gen Cert.ReferenceIdeal.Read Cert.Att

variable (x0 : FVec Ideal S4x4096x512 .f32) (x1 x2 : FVec Ideal S4x4096x128 .f32) (x3 x4 : FVec Ideal S64 .f32) (x5 : FVec Ideal S8 .f32)

/-- The host's maximum is the order's. -/
theorem maxAt : (FloatOps.maximumf : Ideal .f32 → Ideal .f32 → Ideal .f32) = (max : EReal → EReal → EReal) := rfl

theorem liftAt (b : Fin 4) (n : Fin 32) (g : Fin 2) (h : Fin 4) (r : Fin 128) (hr : S4x32x2x4x128x256.Reduces [5] S4x32x2x4x128) (s : Fin 256) :
    hr.lift (ix5 b n g h r) s = ix6 b n g h r s :=
  funext fun a => Fin.ext (by match a with | ⟨0, _⟩ => rfl | ⟨1, _⟩ => rfl | ⟨2, _⟩ => rfl | ⟨3, _⟩ => rfl | ⟨4, _⟩ => rfl | ⟨5, _⟩ => rfl)

theorem redd : S4x32x2x4x128x256.Reduces [5] S4x32x2x4x128 := by decide

theorem mxA (y : FVec Ideal S4x32x2x4x128x256 .f32) (z : FVec Ideal S_ .f32) (j : S4x32x2x4x128.Idx) :
    Host.reduce (max : EReal → EReal → EReal) y z reducesTo_S4x32x2x4x128x256_S4x32x2x4x128_d5 h_S_ j = (Finset.univ : Finset (Fin 256)).fold max (z (Shape.Idx.first h_S_)) (y ∘ redd.lift j) :=
  Host.reduce_eq_fold_single (max : EReal → EReal → EReal) y z reducesTo_S4x32x2x4x128x256_S4x32x2x4x128_d5 redd h_S_ j

theorem cst20 : val_main_cst_20 (F := Ideal) (Shape.Idx.first h_S_) = negInf := rfl

theorem mxC (y : FVec Ideal S4x32x2x4x128x256 .f32) (w : EReal) (b : Fin 4) (n : Fin 32) (g : Fin 2) (h : Fin 4) (r : Fin 128) :
    (Finset.univ : Finset (Fin 256)).fold max w (y ∘ redd.lift (ix5 b n g h r)) = (Finset.univ : Finset (Fin 256)).fold max w (fun s => y (ix6 b n g h r s)) :=
  congrArg (fun f : Fin 256 → EReal => (Finset.univ : Finset (Fin 256)).fold max w f) (funext fun s => congrArg y (liftAt b n g h r redd s))

theorem mxD (y : FVec Ideal S4x32x2x4x128x256 .f32) (z : FVec Ideal S_ .f32) (w : EReal) (hz : z (Shape.Idx.first h_S_) = w) (b : Fin 4) (n : Fin 32) (g : Fin 2) (h : Fin 4) (r : Fin 128) :
    Host.reduce (max : EReal → EReal → EReal) y z reducesTo_S4x32x2x4x128x256_S4x32x2x4x128_d5 h_S_ (ix5 b n g h r) = (Finset.univ : Finset (Fin 256)).fold max w (fun s => y (ix6 b n g h r s)) := by
  subst hz
  exact (mxA y z _).trans (mxC y _ b n g h r)

theorem mxE (b : Fin 4) (n : Fin 32) (g : Fin 2) (h : Fin 4) (r : Fin 128) : val_main_v145 (F := Ideal) x0 x1 x3 x4 (ix5 b n g h r) =
    Host.reduce (max : EReal → EReal → EReal) (val_main_v143 (F := Ideal) x0 x1 x3 x4) (val_main_cst_20 (F := Ideal)) reducesTo_S4x32x2x4x128x256_S4x32x2x4x128_d5 h_S_ (ix5 b n g h r) := by
  unfold val_main_v145
  generalize val_main_v143 (F := Ideal) x0 x1 x3 x4 = y
  generalize val_main_cst_20 (F := Ideal) = z
  rfl

/-- The largest score of a query, -/
theorem mx (b : Fin 4) (n : Fin 32) (g : Fin 2) (h : Fin 4) (r : Fin 128) :
    val_main_v145 (F := Ideal) x0 x1 x3 x4 (ix5 b n g h r)
      = (Finset.univ : Finset (Fin 256)).fold max negInf fun s : Fin 256 => val_main_v143 (F := Ideal) x0 x1 x3 x4 (ix6 b n g h r s) :=
  (mxE x0 x1 x3 x4 b n g h r).trans (mxD _ _ _ cst20 b n g h r)

theorem snkAt (b : Fin 4) (n : Fin 32) (g : Fin 2) (h : Fin 4) (r : Fin 128) (z : Fin 1) :
    val_main_v147 (F := Ideal) x5 (ix6 b n g h r z) = x5 (ix1 ⟨4 * g + h, by omega⟩) := by
  pointwise [val_main_v144, val_main_v147]
  simp only [Nat.mul_comm (g : ℕ) 4]

/-- with the sink. -/
theorem ms (b : Fin 4) (n : Fin 32) (g : Fin 2) (h : Fin 4) (r : Fin 128) (z : Fin 1) :
    val_main_v148 (F := Ideal) x0 x1 x3 x4 x5 (ix6 b n g h r z)
      = max (val_main_v145 (F := Ideal) x0 x1 x3 x4 (ix5 b n g h r)) (x5 (ix1 ⟨4 * g + h, by omega⟩)) := by
  rw [val_main_v148_apply, val_main_v146_apply, snkAt]
  generalize val_main_v145 (F := Ideal) x0 x1 x3 x4 = y
  have e : idx_main_v146 (ix6 b n g h r z) = ix5 b n g h r :=
    funext fun a => Fin.ext (by match a with | ⟨0, _⟩ => rfl | ⟨1, _⟩ => rfl | ⟨2, _⟩ => rfl | ⟨3, _⟩ => rfl | ⟨4, _⟩ => rfl)
  rw [e]
  rfl

/-- A score's weight. -/
theorem ex (b : Fin 4) (n : Fin 32) (g : Fin 2) (h : Fin 4) (r : Fin 128) (s : Fin 256) :
    val_main_v151 (F := Ideal) x0 x1 x3 x4 x5 (ix6 b n g h r s)
      = Ideal.exp (val_main_v143 (F := Ideal) x0 x1 x3 x4 (ix6 b n g h r s) - val_main_v148 (F := Ideal) x0 x1 x3 x4 x5 (ix6 b n g h r 0)) := by
  pointwise [val_main_v149, val_main_v150, val_main_v151]

theorem sm (b : Fin 4) (n : Fin 32) (g : Fin 2) (h : Fin 4) (r : Fin 128) :
    val_main_v152 (F := Ideal) x0 x1 x3 x4 x5 (ix5 b n g h r)
      = ∑ s : Fin 256, val_main_v151 (F := Ideal) x0 x1 x3 x4 x5 (ix6 b n g h r s) := by
  rw [val_main_v152_apply]
  generalize val_main_v151 (F := Ideal) x0 x1 x3 x4 x5 = y
  have hz : val_main_cst_21 (F := Ideal) (Shape.Idx.first h_S_) = (0 : EReal) := by
    pointwise [val_main_cst_21]
  rw [hz]
  refine (zero_add _).trans (Finset.sum_congr rfl fun s _ => ?_)
  exact congrArg y (funext fun a => Fin.ext (by match a with | ⟨0, _⟩ => rfl | ⟨1, _⟩ => rfl | ⟨2, _⟩ => rfl | ⟨3, _⟩ => rfl | ⟨4, _⟩ => rfl | ⟨5, _⟩ => rfl))

/-- The weights' sum with the sink's. -/
theorem dn (b : Fin 4) (n : Fin 32) (g : Fin 2) (h : Fin 4) (r : Fin 128) (z : Fin 1) :
    val_main_v157 (F := Ideal) x0 x1 x3 x4 x5 (ix6 b n g h r z)
      = val_main_v152 (F := Ideal) x0 x1 x3 x4 x5 (ix5 b n g h r)
        + Ideal.exp (x5 (ix1 ⟨4 * g + h, by omega⟩) - val_main_v148 (F := Ideal) x0 x1 x3 x4 x5 (ix6 b n g h r 0)) := by
  pointwise [val_main_v144, val_main_v153, val_main_v154, val_main_v155, val_main_v156, val_main_v157]
  obtain rfl : z = 0 := Subsingleton.elim _ _
  simp only [Nat.mul_comm (g : ℕ) 4]

/-- The result: the values under the divided weights. -/
theorem out (b : Fin 4) (t : Fin 4096) (l : Fin 512) :
    val_main_v163 (F := Ideal) x0 x1 x2 x3 x4 x5 (ix3 b t l)
      = ∑ s : Fin 256, val_main_v106 (F := Ideal) x2 (ix5 b ⟨t / 128, by omega⟩ s ⟨l / 256, by omega⟩ ⟨l % 64, by omega⟩)
        * Ideal.div (val_main_v151 (F := Ideal) x0 x1 x3 x4 x5 (ix6 b ⟨t / 128, by omega⟩ ⟨l / 256, by omega⟩ ⟨l / 64 % 4, by omega⟩ ⟨t % 128, by omega⟩ s))
          (val_main_v157 (F := Ideal) x0 x1 x3 x4 x5 (ix6 b ⟨t / 128, by omega⟩ ⟨l / 256, by omega⟩ ⟨l / 64 % 4, by omega⟩ ⟨t % 128, by omega⟩ 0)) := by
  pointwise [val_main_v158, val_main_v159, val_main_v160, val_main_v161, val_main_v162, val_main_v163]

end Cert.ReferenceIdeal.Att
-- ==== Proof.Soft.lean ====
/-
  Where the attention's scores are real numbers, and why its weights may be divided before or after they are summed.
-/
module

public import proofs.«01_k».proof.Proof.Spec

@[expose] public section

noncomputable section

namespace Cert.Att

open Idealize.ShloMosaic

/-- A real number among the extended reals. -/
def Rl (x : EReal) : Prop := ∃ r : ℝ, x = r

theorem Rl.add {x y : EReal} : Rl x → Rl y → Rl (x + y) := by
  rintro ⟨a, rfl⟩ ⟨b, rfl⟩; exact ⟨a + b, (EReal.coe_add a b).symm⟩

theorem Rl.sub {x y : EReal} : Rl x → Rl y → Rl (x - y) := by
  rintro ⟨a, rfl⟩ ⟨b, rfl⟩; exact ⟨a - b, (EReal.coe_sub a b).symm⟩

theorem Rl.mul {x y : EReal} : Rl x → Rl y → Rl (x * y) := by
  rintro ⟨a, rfl⟩ ⟨b, rfl⟩; exact ⟨a * b, (EReal.coe_mul a b).symm⟩

theorem Rl.neg {x : EReal} : Rl x → Rl (-x) := by
  rintro ⟨a, rfl⟩; exact ⟨-a, (EReal.coe_neg a).symm⟩

theorem Rl.sum {ι : Type} (s : Finset ι) (f : ι → EReal) (h : ∀ i, Rl (f i)) : Rl (∑ i ∈ s, f i) := by
  classical
  induction s using Finset.induction_on with
  | empty => exact ⟨0, by simp⟩
  | insert a s ha ih => rw [Finset.sum_insert ha]; exact (h a).add ih

theorem Rl.div {x : EReal} {b : ℝ} (hx : Rl x) (hb : b ≠ 0) : Rl (Ideal.div x b) := by
  obtain ⟨a, rfl⟩ := hx
  refine ⟨a * b⁻¹, ?_⟩
  unfold Ideal.div
  rw [if_neg (by exact_mod_cast hb), EReal.coe_mul, EReal.coe_inv]

theorem Rl.cases {x : EReal} (h1 : x ≠ ⊤) (h2 : x ≠ ⊥) : Rl x := by
  induction x with
  | bot => exact absurd rfl h2
  | top => exact absurd rfl h1
  | coe a => exact ⟨a, rfl⟩

theorem lit64 : ∃ r : ℝ, 0 < r ∧ Ideal.ofBits .f32 0x42800000#32 = r := by
  refine ⟨8388608 * (2 ^ 17)⁻¹, by positivity, ?_⟩
  simp [Ideal.ofBits, Ideal.ieee]

theorem litEps : ∃ r : ℝ, 0 < r ∧ Ideal.ofBits .f32 0x358637BD#32 = r := by
  refine ⟨8796093 * (2 ^ 43)⁻¹, by positivity, ?_⟩
  simp [Ideal.ofBits, Ideal.ieee]

theorem litBase : ∃ r : ℝ, 0 < r ∧ Ideal.ofBits .f32 0x48F42400#32 = r := by
  refine ⟨16000000 * (2 ^ 5)⁻¹, by positivity, ?_⟩
  simp [Ideal.ofBits, Ideal.ieee]

theorem lit2 : ∃ r : ℝ, 0 < r ∧ Ideal.ofBits .f32 0x40000000#32 = r := by
  refine ⟨8388608 * (2 ^ 22)⁻¹, by positivity, ?_⟩
  simp [Ideal.ofBits, Ideal.ieee]

theorem lit16 : ∃ r : ℝ, 0 < r ∧ Ideal.ofBits .f32 0x41800000#32 = r := by
  refine ⟨8388608 * (2 ^ 19)⁻¹, by positivity, ?_⟩
  simp [Ideal.ofBits, Ideal.ieee]

theorem litEighth : ∃ r : ℝ, 0 < r ∧ Ideal.ofBits .f32 0x3E000000#32 = r := by
  refine ⟨8388608 * (2 ^ 26)⁻¹, by positivity, ?_⟩
  simp [Ideal.ofBits, Ideal.ieee]

theorem negInf_eq : negInf = ⊥ := by
  simp [negInf, Ideal.ofBits, Ideal.ieee]

theorem sq_nonneg' (x : EReal) : 0 ≤ x * x := by
  induction x with
  | bot => simp
  | top => simp
  | coe a => exact_mod_cast mul_self_nonneg a

/-- A normalised row is real when its weights are, whatever the row. -/
theorem nrm_real (x w : Fin 64 → EReal) (hw : ∀ d, Rl (w d)) (d : Fin 64) : Rl (nrm x w d) := by
  obtain ⟨a, ha, ea⟩ := lit64
  obtain ⟨e, he, ee⟩ := litEps
  unfold nrm
  refine Rl.mul ?_ (hw d)
  rw [ea, ee]
  have hS : 0 ≤ ∑ k : Fin 64, x k * x k := Finset.sum_nonneg fun k _ => sq_nonneg' (x k)
  have hd : x d * x d ≤ ∑ k : Fin 64, x k * x k :=
    Finset.single_le_sum (f := fun k => x k * x k) (fun k _ => sq_nonneg' (x k)) (Finset.mem_univ d)
  generalize (∑ k : Fin 64, x k * x k) = S at hS hd
  have hdiv : Ideal.div S a = S * ((a⁻¹ : ℝ) : EReal) := by
    unfold Ideal.div
    rw [if_neg (by exact_mod_cast ha.ne'), EReal.coe_inv]
  rw [hdiv]
  induction S with
  | bot => exact absurd hS (by simp)
  | top =>
    rw [EReal.top_mul_coe_of_pos (inv_pos.mpr ha), EReal.top_add_coe]
    exact ⟨0, (mul_zero (x d)).trans EReal.coe_zero.symm⟩
  | coe s =>
    have hs : 0 ≤ s := by exact_mod_cast hS
    rw [← EReal.coe_mul, ← EReal.coe_add, Ideal.rsqrt_coe]
    have hp : 0 < s * a⁻¹ + e := add_pos_of_nonneg_of_pos (mul_nonneg hs (inv_nonneg.mpr ha.le)) he
    rw [if_neg hp.not_gt, if_neg hp.ne']
    refine Rl.mul (Rl.cases ?_ ?_) ⟨_, rfl⟩
    · rintro h
      rw [h] at hd
      simp at hd
    · rintro h
      rw [h] at hd
      simp at hd

theorem ang_real (t : Fin 4096) (f : Fin 8) : Rl (ang t f) := by
  obtain ⟨a, ha, ea⟩ := litBase
  obtain ⟨b, hb, eb⟩ := lit2
  obtain ⟨e, he, ee⟩ := lit16
  unfold ang
  rw [ea, eb, ee]
  refine Rl.mul ⟨_, rfl⟩ ?_
  obtain ⟨p, hp⟩ := ((Rl.mul (x := FloatOps.sitofp (F := Ideal) .f32 (BitVec.ofNat 32 f)) ⟨_, rfl⟩ ⟨b, rfl⟩).div he.ne').neg
  rw [hp]
  exact ⟨_, rfl⟩

theorem cosT_real (t : Fin 4096) (f : Fin 8) : Rl (cosT t f) := by
  obtain ⟨r, hr⟩ := ang_real t f
  exact ⟨Real.cos r, by unfold cosT; rw [hr]; rfl⟩

theorem sinT_real (t : Fin 4096) (f : Fin 8) : Rl (sinT t f) := by
  obtain ⟨r, hr⟩ := ang_real t f
  exact ⟨Real.sin r, by unfold sinT; rw [hr]; rfl⟩

theorem rot_real (t : Fin 4096) (y : Fin 64 → EReal) (hy : ∀ d, Rl (y d)) (d : Fin 64) : Rl (rot (cosT t) (sinT t) y d) := by
  unfold rot
  split
  · exact ((hy _).mul (cosT_real t _)).sub ((hy _).mul (sinT_real t _))
  · split
    · exact ((hy _).mul (cosT_real t _)).add ((hy _).mul (sinT_real t _))
    · exact hy d

theorem scr_real (ok : Fin 128 → Prop) [DecidablePred ok] (q : Fin 64 → EReal) (k : Fin 128 → Fin 64 → EReal)
    (hq : ∀ d, Rl (q d)) (hk : ∀ j d, Rl (k j d)) (j : Fin 128) : Rl (scr ok q k j) ∨ scr ok q k j = ⊥ := by
  obtain ⟨a, ha, ea⟩ := litEighth
  unfold scr
  split
  · exact Or.inl ((Rl.sum _ _ fun d => (hq d).mul (hk j d)).mul ⟨a, ea⟩)
  · exact Or.inr negInf_eq

theorem sum_mul_real {ι : Type} (s : Finset ι) (f : ι → EReal) (c : ℝ) (hc : 0 ≤ c) :
    ∑ i ∈ s, f i * (c : EReal) = (∑ i ∈ s, f i) * (c : EReal) := by
  classical
  induction s using Finset.induction_on with
  | empty => simp
  | insert a s ha ih =>
    rw [Finset.sum_insert ha, Finset.sum_insert ha, ih,
      EReal.right_distrib_of_nonneg_of_ne_top (by exact_mod_cast hc) (EReal.coe_ne_top c)]

/-- A sum over 256 is its second half's and its first half's. -/
theorem sum_halves (f : Fin 256 → EReal) :
    ∑ x, f x = (∑ j : Fin 128, f ⟨128 + j, by omega⟩) + ∑ j : Fin 128, f ⟨j, by omega⟩ := by
  have h := Fin.sum_univ_add (a := 128) (b := 128) f
  rw [h, add_comm]
  rfl

/-- The largest of 256 scores and a sink is that of the two halves. -/
theorem max_halves (s : Fin 256 → EReal) (sc sp : Fin 128 → EReal) (sink : EReal) (hc : ∀ j : Fin 128, s ⟨128 + j, by omega⟩ = sc j)
    (hp : ∀ j : Fin 128, s ⟨j, by omega⟩ = sp j) : max (Finset.univ.fold max negInf s) sink = top sc sp sink := by
  unfold top
  congr 1
  apply le_antisymm
  · rw [Finset.fold_max_le]
    refine ⟨by rw [negInf_eq]; exact bot_le, fun x _ => ?_⟩
    by_cases h : (x : ℕ) < 128
    · refine le_max_of_le_right ?_
      rw [Finset.le_fold_max]
      exact Or.inr ⟨⟨x, h⟩, Finset.mem_univ _, (hp ⟨x, h⟩).le⟩
    · refine le_max_of_le_left ?_
      rw [Finset.le_fold_max]
      refine Or.inr ⟨⟨x - 128, by omega⟩, Finset.mem_univ _, ?_⟩
      rw [← hc]
      exact (congrArg s (Fin.ext (by simp only []; omega))).le
  · refine max_le ?_ ?_
    · rw [Finset.fold_max_le]
      refine ⟨by rw [negInf_eq]; exact bot_le, fun j _ => ?_⟩
      rw [Finset.le_fold_max]
      exact Or.inr ⟨_, Finset.mem_univ _, (hc j).ge⟩
    · rw [Finset.fold_max_le]
      refine ⟨by rw [negInf_eq]; exact bot_le, fun j _ => ?_⟩
      rw [Finset.le_fold_max]
      exact Or.inr ⟨_, Finset.mem_univ _, (hp j).ge⟩

/-- A score's weight is a real number, not negative, and zero at minus infinity. -/
theorem weight {x : EReal} (hx : Rl x ∨ x = ⊥) (μ : ℝ) : ∃ r : ℝ, 0 ≤ r ∧ Ideal.exp (x - μ) = r ∧ (x ≠ ⊥ → 0 < r) ∧ (x = ⊥ → r = 0) := by
  rcases hx with ⟨a, rfl⟩ | rfl
  · exact ⟨Real.exp (a - μ), (Real.exp_pos _).le, by rw [← EReal.coe_sub, Ideal.exp_coe], fun _ => Real.exp_pos _, fun h => absurd h (EReal.coe_ne_bot a)⟩
  · exact ⟨0, le_rfl, rfl, fun h => absurd rfl h, fun _ => rfl⟩

theorem top_real (sc sp : Fin 128 → EReal) (sink : EReal) (hc : ∀ j, Rl (sc j) ∨ sc j = ⊥) (hp : ∀ j, Rl (sp j) ∨ sp j = ⊥)
    (hs : sink ≠ ⊤) (j0 : Fin 128) (hj : sc j0 ≠ ⊥) : Rl (top sc sp sink) := by
  have hlt : ∀ x : EReal, (Rl x ∨ x = ⊥) → x < ⊤ := by
    rintro x (⟨a, rfl⟩ | rfl)
    · exact EReal.coe_lt_top a
    · exact bot_lt_top
  refine Rl.cases (ne_of_lt ?_) ?_
  · unfold top
    refine max_lt (max_lt ?_ ?_) (lt_top_iff_ne_top.mpr hs)
    · rw [Finset.fold_max_lt]
      exact ⟨by rw [negInf_eq]; exact bot_lt_top, fun j _ => hlt _ (hc j)⟩
    · rw [Finset.fold_max_lt]
      exact ⟨by rw [negInf_eq]; exact bot_lt_top, fun j _ => hlt _ (hp j)⟩
  · intro h
    have : sc j0 ≤ top sc sp sink := by
      unfold top
      refine le_max_of_le_left (le_max_of_le_left ?_)
      rw [Finset.le_fold_max]
      exact Or.inr ⟨j0, Finset.mem_univ _, le_rfl⟩
    rw [h] at this
    exact hj (le_bot_iff.mp this)

/-- Dividing every weight before the weighted sum, over all 256 keys, is dividing the sum over the two halves. -/
theorem soft_eq (s v : Fin 256 → EReal) (sc sp vc vp : Fin 128 → EReal) (sink M : EReal)
    (h1 : ∀ j : Fin 128, s ⟨128 + j, by omega⟩ = sc j) (h2 : ∀ j : Fin 128, s ⟨j, by omega⟩ = sp j)
    (h3 : ∀ j : Fin 128, v ⟨128 + j, by omega⟩ = vc j) (h4 : ∀ j : Fin 128, v ⟨j, by omega⟩ = vp j ∨ sp j = ⊥)
    (hc : ∀ j, Rl (sc j) ∨ sc j = ⊥) (hp : ∀ j, Rl (sp j) ∨ sp j = ⊥) (hs : sink ≠ ⊤) (j0 : Fin 128) (hj : sc j0 ≠ ⊥)
    (hM : M = max (Finset.univ.fold max negInf s) sink) :
    ∑ x, v x * Ideal.div (Ideal.exp (s x - M)) ((∑ y, Ideal.exp (s y - M)) + Ideal.exp (sink - M)) = att sc sp sink vc vp := by
  have hT : M = top sc sp sink := hM.trans (max_halves s sc sp sink h1 h2)
  have hD : (∑ y, Ideal.exp (s y - M)) + Ideal.exp (sink - M) = den sc sp sink := by
    rw [hT, sum_halves]
    unfold den
    simp only [h1, h2]
  rw [hD]
  obtain ⟨μ, hμ⟩ := top_real sc sp sink hc hp hs j0 hj
  have hsink : Rl sink ∨ sink = ⊥ := by
    by_cases h : sink = ⊥
    · exact Or.inr h
    · exact Or.inl (Rl.cases hs h)
  obtain ⟨δ, hδ, eδ⟩ : ∃ δ : ℝ, 0 < δ ∧ den sc sp sink = δ := by
    unfold den
    rw [hμ]
    choose a ha ea pa _ using fun j => weight (hc j) μ
    choose b hb eb _ _ using fun j => weight (hp j) μ
    obtain ⟨e, he, ee, _, _⟩ := weight hsink μ
    refine ⟨(∑ j, a j) + (∑ j, b j) + e, ?_, ?_⟩
    · have : a j0 ≤ ∑ j, a j := Finset.single_le_sum (fun j _ => ha j) (Finset.mem_univ j0)
      have h' := pa j0 hj
      have hbs : 0 ≤ ∑ j, b j := Finset.sum_nonneg fun j _ => hb j
      linarith
    · simp only [ea, eb, ee]
      push_cast
      rfl
  have hdiv : ∀ x : EReal, Ideal.div x (den sc sp sink) = x * ((δ⁻¹ : ℝ) : EReal) := by
    intro x
    rw [eδ]
    unfold Ideal.div
    rw [if_neg (by exact_mod_cast hδ.ne'), EReal.coe_inv]
  unfold att
  rw [hdiv]
  simp only [hdiv]
  have hx : ∀ x, v x * (Ideal.exp (s x - M) * ((δ⁻¹ : ℝ) : EReal)) = (Ideal.exp (s x - M) * v x) * ((δ⁻¹ : ℝ) : EReal) := by
    intro x
    rw [← mul_assoc, mul_comm (v x)]
  simp only [hx]
  rw [sum_mul_real _ _ _ (inv_nonneg.mpr hδ.le), sum_halves]
  congr 2
  · refine Finset.sum_congr rfl fun j _ => ?_
    rw [h1, h3, hT]
  · refine Finset.sum_congr rfl fun j _ => ?_
    rw [h2, hT]
    rcases h4 j with h | h
    · rw [h]
    · obtain ⟨r, _, er, _, hr⟩ := weight (hp j) μ
      rw [hμ, er, hr h]
      simp

end Cert.Att
-- ==== Proof.Final.lean ====
/-
  The reference's result is the attention the kernel computes, where the norms' weights are finite and no sink is plus
  infinity.
-/
module

public import proofs.«01_k».proof.Proof.RVal
public import proofs.«01_k».proof.Proof.ROut
public import proofs.«01_k».proof.Proof.Soft
public import proofs.«01_k».proof.Pre_finite_weights

@[expose] public section

set_option maxRecDepth 16384

noncomputable section

namespace Cert.ReferenceIdeal.Att

open Idealize.ShloMosaic Idealize.ShloMosaic.TcCoe Idealize.SL.Sem Cert.ReferenceIdeal Cert.ReferenceIdeal.Gen Cert.ReferenceIdeal.Read Cert.Att

variable (x0 : FVec Ideal S4x4096x512 .f32) (x1 x2 : FVec Ideal S4x4096x128 .f32) (x3 x4 : FVec Ideal S64 .f32) (x5 : FVec Ideal S8 .f32)

theorem qry_real (x : Fin 4096 → Fin 512 → EReal) (w : Fin 64 → EReal) (hw : ∀ d, Rl (w d)) (t : Fin 4096) (h : Fin 8) (d : Fin 64) :
    Rl (qry x w t h d) := rot_real t _ (nrm_real _ w hw) d

theorem key_real (x : Fin 4096 → Fin 128 → EReal) (w : Fin 64 → EReal) (hw : ∀ d, Rl (w d)) (t : Fin 4096) (g : Fin 2) (d : Fin 64) :
    Rl (key x w t g d) := rot_real t _ (nrm_real _ w hw) d

theorem scr_ne (ok : Fin 128 → Prop) [DecidablePred ok] (q : Fin 64 → EReal) (k : Fin 128 → Fin 64 → EReal)
    (hq : ∀ d, Rl (q d)) (hk : ∀ j d, Rl (k j d)) (j : Fin 128) (hj : ok j) : scr ok q k j ≠ ⊥ := by
  obtain ⟨a, _, ea⟩ := litEighth
  unfold scr
  rw [if_pos hj]
  obtain ⟨r, hr⟩ := (Rl.sum Finset.univ _ fun d => (hq d).mul (hk j d)).mul ⟨a, ea⟩
  rw [hr]
  exact EReal.coe_ne_bot r

/-- The reference at position `t` and lane `l`. -/
theorem val_eq (h3 : ∀ k, Rl (x3 (ix1 k))) (h4 : ∀ k, Rl (x4 (ix1 k))) (h5 : ∀ k, x5 (ix1 k) ≠ (⊤ : EReal)) (b : Fin 4) (t : Fin 4096) (l : Fin 512) :
    val_main_v163 (F := Ideal) x0 x1 x2 x3 x4 x5 (ix3 b t l)
      = attn (fun t l => x0 (ix3 b t l)) (fun t l => x1 (ix3 b t l)) (fun t l => x2 (ix3 b t l)) (fun k => x3 (ix1 k)) (fun k => x4 (ix1 k))
        (fun h => x5 (ix1 h)) t ⟨l / 64, by omega⟩ ⟨l % 64, by omega⟩ := by
  have ht : (⟨128 * (t / 128) + t % 128, by omega⟩ : Fin 4096) = t := Fin.ext (by simp only []; omega)
  have hh : (⟨4 * (l / 256) + l / 64 % 4, by omega⟩ : Fin 8) = ⟨l / 64, by omega⟩ := Fin.ext (by simp only []; omega)
  have hg : (⟨l / 64 / 4, by omega⟩ : Fin 2) = ⟨l / 256, by omega⟩ := Fin.ext (by simp only []; omega)
  have hl : (⟨64 * (l / 64 / 4) + l % 64, by omega⟩ : Fin 128) = ⟨64 * (l / 256) + l % 64, by omega⟩ := Fin.ext (by simp only []; omega)
  rw [out]
  unfold attn
  rw [← soft_eq (fun s => val_main_v143 (F := Ideal) x0 x1 x3 x4 (ix6 b ⟨t / 128, by omega⟩ ⟨l / 256, by omega⟩ ⟨l / 64 % 4, by omega⟩ ⟨t % 128, by omega⟩ s))
    (fun s => val_main_v106 (F := Ideal) x2 (ix5 b ⟨t / 128, by omega⟩ s ⟨l / 256, by omega⟩ ⟨l % 64, by omega⟩)) _ _ _ _ _
    (val_main_v148 (F := Ideal) x0 x1 x3 x4 x5 (ix6 b ⟨t / 128, by omega⟩ ⟨l / 256, by omega⟩ ⟨l / 64 % 4, by omega⟩ ⟨t % 128, by omega⟩ 0))
    ?_ ?_ ?_ ?_ ?_ ?_ (h5 _) ⟨t % 128, by omega⟩ ?_ ?_]
  · refine Finset.sum_congr rfl fun s _ => ?_
    rw [dn, sm, ex, hh]
    refine congrArg₂ (· * ·) rfl (congrArg₂ Ideal.div rfl (congrArg₂ (· + ·) (Finset.sum_congr rfl fun s _ => ?_) rfl))
    exact ex x0 x1 x3 x4 x5 _ _ _ _ _ s
  · intro j
    refine (ss_cur x0 x1 x3 x4 b _ _ _ _ j).trans ?_
    simp only [ht, hh, hg]
  · intro j
    refine (ss_prev x0 x1 x3 x4 b _ _ _ _ j).trans ?_
    simp only [ht, hh, hg]
  · intro j
    refine (vv_cur x2 b _ j _ _).trans ?_
    simp only [hl]
  · intro j
    by_cases hn : 0 < (t : ℕ) / 128
    · left
      refine (vv_prev x2 b _ hn j _ _).trans ?_
      simp only [hl]
    · right
      unfold scr
      rw [if_neg (fun h => hn h.2), negInf_eq]
  · exact fun j => scr_real _ _ _ (qry_real _ _ h3 _ _) (fun j => key_real _ _ h4 _ _) j
  · exact fun j => scr_real _ _ _ (qry_real _ _ h3 _ _) (fun j => key_real _ _ h4 _ _) j
  · exact scr_ne _ _ _ (qry_real _ _ h3 _ _) (fun j => key_real _ _ h4 _ _) _ le_rfl
  · rw [ms, mx, hh]

end Cert.ReferenceIdeal.Att
-- ==== Proof.Pre.lean ====
/-
  What the precondition says: the norms' weights are real numbers and no sink is plus infinity.
-/
module

public import proofs.«01_k».proof.Proof.Soft
public import proofs.«01_k».proof.Pre_finite_weights

@[expose] public section

noncomputable section

namespace Cert.Pre_finite_weights

open Idealize.ShloMosaic Cert.Att

/-- Its shape facts. -/
instance facts : Facts := ⟨by decide, by decide⟩

variable [Facts] (x0 : FVec Ideal S4x4096x512 .f32) (x1 x2 : FVec Ideal S4x4096x128 .f32) (x3 x4 : FVec Ideal S64 .f32) (x5 : FVec Ideal S8 .f32)

theorem inf_eq : Ideal.ofBits .f32 0x7F800000#32 = (⊤ : EReal) := by
  simp [Ideal.ofBits, Ideal.ieee]

theorem bit {P : Prop} [Decidable P] (h : BitVec.ofBool (decide P) = 1#1) : P := by
  by_contra hp
  rw [decide_eq_false hp] at h
  exact absurd h (by decide)

theorem abs_real (x : Ideal .f32) (h : FloatOps.absf x < (⊤ : EReal)) : Rl x := by
  refine Rl.cases ?_ ?_
  · rintro rfl
    exact absurd (show max (⊤ : EReal) (-⊤) < ⊤ from h) (by simp)
  · rintro rfl
    exact absurd (show max (⊥ : EReal) (-⊥) < ⊤ from h) (by simp)

theorem w3 (h : (fn (F := Ideal) x0 x1 x2 x3 x4 x5).1 = fun _ => 1#1) (k : Fin 64) : Rl (x3 (ix1 k)) := by
  have e : (fn (F := Ideal) x0 x1 x2 x3 x4 x5).1 (ix1 k) = BitVec.ofBool (decide (FloatOps.absf (x3 (ix1 k)) < Ideal.ofBits .f32 0x7F800000#32)) := by
    pointwise [fn]
  rw [h, inf_eq] at e
  exact abs_real _ (bit e.symm)

theorem w4 (h : (fn (F := Ideal) x0 x1 x2 x3 x4 x5).2.1 = fun _ => 1#1) (k : Fin 64) : Rl (x4 (ix1 k)) := by
  have e : (fn (F := Ideal) x0 x1 x2 x3 x4 x5).2.1 (ix1 k) = BitVec.ofBool (decide (FloatOps.absf (x4 (ix1 k)) < Ideal.ofBits .f32 0x7F800000#32)) := by
    pointwise [fn]
  rw [h, inf_eq] at e
  exact abs_real _ (bit e.symm)

theorem s5 (h : (fn (F := Ideal) x0 x1 x2 x3 x4 x5).2.2 = fun _ => 1#1) (k : Fin 8) : x5 (ix1 k) ≠ (⊤ : EReal) := by
  have e : (fn (F := Ideal) x0 x1 x2 x3 x4 x5).2.2 (ix1 k) = BitVec.ofBool (decide (x5 (ix1 k) < Ideal.ofBits .f32 0x7F800000#32)) := by
    pointwise [fn]
  rw [h, inf_eq] at e
  exact (bit e.symm).ne

end Cert.Pre_finite_weights
-- ==== Proof.AttClaims.lean ====
/-
  The attention's claims: its runs leave the arguments, and kernel and reference end with the same array.
-/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.KVal
public import proofs.«01_k».proof.Proof.Final
public import proofs.«01_k».proof.Proof.Pre

@[expose] public section

noncomputable section

namespace Cert.AttClaims

open Idealize.ShloMosaic Idealize.ShloMosaic.TcCoe Idealize.SL.Sem

theorem frame : Cert.quiescent_Kernel := fun m ρ _ => Cert.Kernel.Gen.frame m ρ

theorem frameI : Cert.quiescent_KernelIdeal := fun m ρ _ => Cert.KernelIdeal.Gen.frame m ρ

theorem frameP [Cert.Pre_finite_weights.Facts] : Cert.quiescent_KernelIdeal_pre_finite_weights := fun m ρ _ => Cert.KernelIdeal.Gen.frame m ρ

theorem frameR : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frameRP [Cert.Pre_finite_weights.Facts] : Cert.quiescent_ReferenceIdeal_pre_finite_weights := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem eta (j : Cert.KernelIdeal.S4x4096x512.Idx) : j = ix3 (j 0) (j 1) (j 2) :=
  funext fun a => by match a with | ⟨0, _⟩ => rfl | ⟨1, _⟩ => rfl | ⟨2, _⟩ => rfl

/-- The reference's result of the kernel's arguments is the attention. -/
theorem ref_eq [Cert.Pre_finite_weights.Facts] (m : (ℓ : Loc Cert.KernelIdeal.nD Cert.KernelIdeal.τ Cert.KernelIdeal.sig) → Buf (Elt Ideal) ℓ)
    (hp : Cert.Pre_KernelIdeal_finite_weights m) (c : Dev Cert.KernelIdeal.nD) :
    Cert.ReferenceIdeal.Read.val_main_v163 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      = Cert.KernelIdeal.Att.G m c := by
  obtain ⟨h3, h4, h5⟩ := hp c
  funext j
  refine (congrArg _ (eta j)).trans ?_
  exact Cert.ReferenceIdeal.Att.val_eq _ _ _ _ _ _ (Cert.Pre_finite_weights.w3 _ _ _ _ _ _ h3) (Cert.Pre_finite_weights.w4 _ _ _ _ _ _ h4)
    (Cert.Pre_finite_weights.s5 _ _ _ _ _ _ h5) (j 0) (j 1) (j 2)

/-- The reference's run, its result read stage by stage. -/
theorem runR (m : (ℓ : Loc Cert.ReferenceIdeal.nD Cert.ReferenceIdeal.τ Cert.ReferenceIdeal.sig) → Buf (Elt Ideal) ℓ) (ρ : Dev Cert.ReferenceIdeal.nD → PrngReg) :
    θ_run Cert.ReferenceIdeal.defs (onTc (τ := Cert.ReferenceIdeal.τ) (Cert.ReferenceIdeal.main (F := Ideal))) ⟨m, fun _ => 0, ρ⟩ fun r => ∀ c : Dev Cert.ReferenceIdeal.nD,
      r.2.mem ((c.tc : Thread Cert.ReferenceIdeal.nD Cert.ReferenceIdeal.τ).loc Cert.ReferenceIdeal.main_v163)
        = Cert.ReferenceIdeal.Read.val_main_v163 (F := Ideal) (m ((c.tc : Thread Cert.ReferenceIdeal.nD Cert.ReferenceIdeal.τ).loc Cert.ReferenceIdeal.main_arg0))
      (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))
      (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))
      (m ((c.tc : Thread Cert.ReferenceIdeal.nD Cert.ReferenceIdeal.τ).loc Cert.ReferenceIdeal.main_arg5)) :=
  (θ_run Cert.ReferenceIdeal.defs _ _).mono (fun _ h c => (h c).1.trans (Cert.ReferenceIdeal.Read.val_main_v163_eq (F := Ideal) (StableHlo.launchContents m c)))
    (Cert.ReferenceIdeal.Value.run (F := Ideal) m ρ)

theorem algebraic [Cert.Pre_finite_weights.Facts] : Cert.algebraic_KernelIdeal_ReferenceIdeal_pre_finite_weights := by
  intro m ρ m' ρ' hp hag
  refine ⟨fun c => Cert.KernelIdeal.Att.G m c, ?_, ?_⟩
  · exact (θ_run Cert.KernelIdeal.defs _ _).mono (fun _ h c => ⟨(h c).1.trans (Cert.KernelIdeal.Att.final m c), (h c).2⟩)
      (Cert.KernelIdeal.Value.run_blocks (F := Ideal) m ρ)
  · refine (θ_run Cert.ReferenceIdeal.defs _ _).mono (fun _ h c => ⟨(h.1 c).trans ?_, (h.2 c).2⟩)
      (θ_run_and (runR m' ρ') (Cert.ReferenceIdeal.Value.run (F := Ideal) m' ρ'))
    obtain ⟨a0, a1, a2, a3, a4, a5⟩ := hag c
    rw [a0, a1, a2, a3, a4, a5]
    exact ref_eq m hp c

end Cert.AttClaims
-- ==== Proof.LaySpec.lean ====
/-
  The layer's two projections on the extended reals: a row of 1024 entries over its root mean square, and rows of the
  four sequences numbered through.
-/
module

public import Idealize.ShloMosaic.Lib.Pointwise

@[expose] public section

noncomputable section

namespace Cert.Lay

open Idealize.ShloMosaic

/-- A row of 1024 entries over its root mean square, times its weights. -/
def rms (x w : Fin 1024 → EReal) (d : Fin 1024) : EReal :=
  x d * Ideal.rsqrt (Ideal.div (∑ k : Fin 1024, x k * x k) (Ideal.ofBits .f32 0x44800000#32)
    + Ideal.ofBits .f32 0x358637BD#32) * w d

/-- A row of 1024 entries times a column. -/
def dot (x y : Fin 1024 → EReal) : EReal := ∑ k : Fin 1024, x k * y k

/-- An entry of the residual with the two halves' products added. -/
def mix (x : EReal) (a b : Fin 512 → EReal) (w : Fin 1024 → EReal) : EReal :=
  x + ∑ k : Fin 512, a k * w ⟨k, by omega⟩ + ∑ k : Fin 512, b k * w ⟨512 + k, by omega⟩

theorem eta {a b : ℕ} (j : (⟨2, ![a, b]⟩ : Shape).Idx) : j = ix2 (j 0) (j 1) :=
  funext fun k => by match k with | ⟨0, _⟩ => rfl | ⟨1, _⟩ => rfl

/-- The sequence of row `n`. -/
def seq (n : ℕ) (h : n < 16384) : Fin 4 := ⟨n / 4096, by omega⟩

/-- The place of row `n` in its sequence. -/
def tok (n : ℕ) : Fin 4096 := ⟨n % 4096, by omega⟩

/-- A sum over 1024 entries by halves. -/
theorem sum_halves {f : Fin 1024 → EReal} :
    ∑ k : Fin 1024, f k = ∑ k : Fin 512, f ⟨k, by omega⟩ + ∑ k : Fin 512, f ⟨512 + k, by omega⟩ :=
  Fin.sum_univ_add (a := 512) (b := 512) f

end Cert.Lay

end
-- ==== Proof.ProjVal.lean ====
/-
  The input projection's results after the run: each block's rows, normalised and times the padded weights' columns.
-/
module

public import proofs.«01_k».proof.Proof.Gen.ProjIdeal.Value
public import proofs.«01_k».proof.Proof.LaySpec
public import Idealize.ShloMosaic.Lib.Pipeline.ValueKit
public import Idealize.ShloMosaic.Lib.StableHlo.RunRead

@[expose] public section

set_option maxRecDepth 16384

noncomputable section

namespace Cert.ProjIdeal.Lay

open Idealize.ShloMosaic Idealize.ShloMosaic.TcCoe Idealize.SL.Sem Idealize.ShloMosaic.Pipeline Cert.ProjIdeal Cert.ProjIdeal.Gen Cert.Lay

variable (m : (ℓ : Loc nD τ sig) → Buf (Elt Ideal) ℓ) (c : Dev nD)

/-- The product of normalised rows and weights, at an entry. -/
theorem pay1_apply (P0 : Vec Ideal S512x1024 .f32) (P1 : Vec Ideal S1x1024 .f32) (P2 : Vec Ideal S1024x2944 .bf16) (r : Fin 512) (l : Fin 2944) :
    k0_pay1 P0 P1 P2 (ix2 r l) = dot (rms (fun k => P0 (ix2 r k)) (fun k => P1 (ix2 0 k))) (fun k => P2 (ix2 k l)) := by
  pointwise [k0_pay1, rms, dot]

theorem idx : ∀ t : Fin grid0.N,
    win0_0.index t = ![t.val, 0] ∧ win0_1.index t = ![0, 0] ∧ win0_2.index t = ![0, 0] ∧
    win0_3.index t = ![t.val, 0] ∧ win0_4.index t = ![t.val, 0] ∧ win0_5.index t = ![t.val, 0] ∧
    win0_6.index t = ![t.val, 0] ∧ win0_7.index t = ![t.val, 0] ∧ win0_8.index t = ![t.val, 0] := by decide +kernel

theorem rows_at (n : Fin 16384) (k : Fin 1024) :
    (V m c main_v0 : Vec Ideal S16384x1024 .f32) (ix2 n k) = m (c, main_arg0) (ix3 (seq n n.isLt) (tok n) k) := by
  simp (disch := decide) only [V, hostOps0, hostOps0_1, hostOps0_2, List.flatten_cons, List.flatten_nil, List.append_nil, List.cons_append, List.nil_append, StableHlo.readAfter, StableHlo.readUpto, StableHlo.nullary_result', StableHlo.unary_result', StableHlo.binary_result', StableHlo.reshape_result']
  pointwise [seq, tok]

theorem wt_at (k : Fin 1024) :
    (V m c main_v3 : Vec Ideal S1x1024 .f32) (ix2 0 k) = m (c, main_arg1) (ix1 k) := by
  simp (disch := decide) only [V, hostOps0, hostOps0_1, hostOps0_2, List.flatten_cons, List.flatten_nil, List.append_nil, List.cons_append, List.nil_append, StableHlo.readAfter, StableHlo.readUpto, StableHlo.nullary_result', StableHlo.unary_result', StableHlo.binary_result', StableHlo.reshape_result']
  pointwise

/-- The weights' column `l`, the columns past the last read as zero. -/
def colp (w : FVec Ideal S1024x2824 .f32) (l : Fin 2944) (k : Fin 1024) : EReal :=
  if h : (l : ℕ) < 2824 then w (ix2 k ⟨l, h⟩) else 0

theorem colp_lt (w : FVec Ideal S1024x2824 .f32) (l : Fin 2944) (k : Fin 1024) (h : (l : ℕ) < 2824) : colp w l k = w (ix2 k ⟨l, h⟩) := dif_pos h

theorem pad_col (w : FVec Ideal S1024x2824 .f32) (k : Fin 1024) (l : Fin 2944) :
    pad S1024x2944 ![0, 0] ![0, 120] ![0, 0] w (sitofp (F := Ideal) .f32 (constantI S_ 32 0#32)) pads_S1024x2824_S1024x2944_000_01200 h_S_ (ix2 k l) = colp w l k := by
  unfold colp
  by_cases h : (l : ℕ) < 2824
  · rw [dif_pos h]
    pointwise
    exact dif_pos h
  · rw [dif_neg h]
    pointwise
    refine (dif_neg h).trans ?_
    show (((0#32 : BitVec 32).toInt : ℝ) : EReal) = 0
    simp

theorem pad_at (k : Fin 1024) (l : Fin 2944) :
    (V m c main_v2 : Vec Ideal S1024x2944 .bf16) (ix2 k l) = colp (m (c, main_arg2)) l k := by
  simp (disch := decide) only [V, hostOps0, hostOps0_1, hostOps0_2, List.flatten_cons, List.flatten_nil, List.append_nil, List.cons_append, List.nil_append, StableHlo.readAfter, StableHlo.readUpto, StableHlo.nullary_result', StableHlo.unary_result', StableHlo.binary_result', StableHlo.reshape_result']
  exact pad_col (m (c, main_arg2)) k l

theorem blk0 (t : Fin cfg0.N) (ht : (t : ℕ) < 32) (r : Fin 512) (k : Fin 1024) :
    (iblk m c 0 t : Vec Ideal S512x1024 .f32) (ix2 r k) = (V m c main_v0 : Vec Ideal S16384x1024 .f32) (ix2 ⟨512 * t + r, by omega⟩ k) := by
  blk_ext [iblk, idx t]

theorem blk1 (t : Fin cfg0.N) (r : Fin 1) (k : Fin 1024) :
    (iblk m c 1 t : Vec Ideal S1x1024 .f32) (ix2 r k) = (V m c main_v3 : Vec Ideal S1x1024 .f32) (ix2 r k) := by
  blk_ext [iblk, idx t]

theorem blk2 (t : Fin cfg0.N) (r : Fin 1024) (k : Fin 2944) :
    (iblk m c 2 t : Vec Ideal S1024x2944 .bf16) (ix2 r k) = (V m c main_v2 : Vec Ideal S1024x2944 .bf16) (ix2 r k) := by
  blk_ext [iblk, idx t]

/-- Row `n`'s product with column `l`. -/
def prj (c : Dev nD) (n : Fin 16384) (l : Fin 2944) : EReal :=
  dot (rms (fun k => m (c, main_arg0) (ix3 (seq n n.isLt) (tok n) k)) (fun k => m (c, main_arg1) (ix1 k))) (colp (m (c, main_arg2)) l)

theorem pay_at (t : Fin cfg0.N) (ht : (t : ℕ) < 32) (r : Fin 512) (l : Fin 2944) (y : S512x2944.Idx) (hy : y = ix2 r l) :
    k0_pay1 (View.ld (iblk m c 0 t) r0_0) (View.ld (iblk m c 1 t) r0_1) (View.ld (iblk m c 2 t) r0_2) y = prj m c ⟨512 * t + r, by omega⟩ l := by
  subst hy
  rw [pay1_apply]
  unfold prj
  congr 1
  · congr 1
    · funext k
      exact (congrFun (View.ld_unit_lit (S := S512x1024) _ _ (by decide)) _).trans <| (blk0 m c t ht r k).trans (rows_at m c _ k)
    · funext k
      exact (congrFun (View.ld_unit_lit (S := S1x1024) _ _ (by decide)) _).trans <| (blk1 m c t 0 k).trans (wt_at m c k)
  · funext k
    exact (congrFun (View.ld_unit_lit (S := S1024x2944) _ _ (by decide)) _).trans <| (blk2 m c t k l).trans (pad_at m c k l)

/-- Result 1 after the run. -/
def G3 (c : Dev nD) : FVec Ideal S16384x512 .f32 := fun j => prj m c (j 0) ⟨0 + (j 1 : ℕ), by have h : (j 1 : ℕ) < 512 := (j 1).isLt; omega⟩

theorem final3 : (dats m 0 c).arrAt 3 cfg0.N = G3 m c := by
  refine Dat.arrAt_eq_of_covers (dats m 0 c) 3 (G3 m c) (by decide +kernel) fun t hf y => ?_
  have h0 : (y 0 : ℕ) < 512 := (y 0).isLt
  have h1 : (y 1 : ℕ) < 512 := (y 1).isLt
  have j0 : (((win0_3.blk t).view.emb y) 0 : ℕ) = 512 * t + (y 0 : ℕ) := by
    blk_simp [idx t]
    omega
  have j1 : (((win0_3.blk t).view.emb y) 1 : ℕ) = (y 1 : ℕ) := by
    blk_simp [idx t]
  refine (congrFun (after0_3 m c t) _).trans ?_
  refine (Value.canon3_eq _ _ _ _).trans ?_
  refine (pay_at m c t t.isLt ⟨y 0, h0⟩ ⟨0 + (y 1 : ℕ), by omega⟩ _ (by ext a; match a with | ⟨0, _⟩ => rfl | ⟨1, _⟩ => show (y 1 : ℕ) = 0 + (y 1 : ℕ); omega)).trans ?_
  exact congrArg₂ (prj m c) (Fin.ext j0.symm) (Fin.ext (congrArg (0 + ·) j1.symm))

/-- Result 2 after the run. -/
def G4 (c : Dev nD) : FVec Ideal S16384x128 .f32 := fun j => prj m c (j 0) ⟨512 + (j 1 : ℕ), by have h : (j 1 : ℕ) < 128 := (j 1).isLt; omega⟩

theorem final4 : (dats m 0 c).arrAt 4 cfg0.N = G4 m c := by
  refine Dat.arrAt_eq_of_covers (dats m 0 c) 4 (G4 m c) (by decide +kernel) fun t hf y => ?_
  have h0 : (y 0 : ℕ) < 512 := (y 0).isLt
  have h1 : (y 1 : ℕ) < 128 := (y 1).isLt
  have j0 : (((win0_4.blk t).view.emb y) 0 : ℕ) = 512 * t + (y 0 : ℕ) := by
    blk_simp [idx t]
    omega
  have j1 : (((win0_4.blk t).view.emb y) 1 : ℕ) = (y 1 : ℕ) := by
    blk_simp [idx t]
  refine (congrFun (after0_4 m c t) _).trans ?_
  refine (Value.canon4_eq _ _ _ _).trans ?_
  refine (pay_at m c t t.isLt ⟨y 0, h0⟩ ⟨512 + (y 1 : ℕ), by omega⟩ _ (by ext a; match a with | ⟨0, _⟩ => rfl | ⟨1, _⟩ => show (y 1 : ℕ) + 512 = 512 + (y 1 : ℕ); omega)).trans ?_
  exact congrArg₂ (prj m c) (Fin.ext j0.symm) (Fin.ext (congrArg (512 + ·) j1.symm))

/-- Result 3 after the run. -/
def G5 (c : Dev nD) : FVec Ideal S16384x128 .f32 := fun j => prj m c (j 0) ⟨640 + (j 1 : ℕ), by have h : (j 1 : ℕ) < 128 := (j 1).isLt; omega⟩

theorem final5 : (dats m 0 c).arrAt 5 cfg0.N = G5 m c := by
  refine Dat.arrAt_eq_of_covers (dats m 0 c) 5 (G5 m c) (by decide +kernel) fun t hf y => ?_
  have h0 : (y 0 : ℕ) < 512 := (y 0).isLt
  have h1 : (y 1 : ℕ) < 128 := (y 1).isLt
  have j0 : (((win0_5.blk t).view.emb y) 0 : ℕ) = 512 * t + (y 0 : ℕ) := by
    blk_simp [idx t]
    omega
  have j1 : (((win0_5.blk t).view.emb y) 1 : ℕ) = (y 1 : ℕ) := by
    blk_simp [idx t]
  refine (congrFun (after0_5 m c t) _).trans ?_
  refine (Value.canon5_eq _ _ _ _).trans ?_
  refine (pay_at m c t t.isLt ⟨y 0, h0⟩ ⟨640 + (y 1 : ℕ), by omega⟩ _ (by ext a; match a with | ⟨0, _⟩ => rfl | ⟨1, _⟩ => show (y 1 : ℕ) + 640 = 640 + (y 1 : ℕ); omega)).trans ?_
  exact congrArg₂ (prj m c) (Fin.ext j0.symm) (Fin.ext (congrArg (640 + ·) j1.symm))

/-- Result 4 after the run. -/
def G6 (c : Dev nD) : FVec Ideal S16384x1536 .f32 := fun j => prj m c (j 0) ⟨768 + (j 1 : ℕ), by have h : (j 1 : ℕ) < 1536 := (j 1).isLt; omega⟩

theorem final6 : (dats m 0 c).arrAt 6 cfg0.N = G6 m c := by
  refine Dat.arrAt_eq_of_covers (dats m 0 c) 6 (G6 m c) (by decide +kernel) fun t hf y => ?_
  have h0 : (y 0 : ℕ) < 512 := (y 0).isLt
  have h1 : (y 1 : ℕ) < 1536 := (y 1).isLt
  have j0 : (((win0_6.blk t).view.emb y) 0 : ℕ) = 512 * t + (y 0 : ℕ) := by
    blk_simp [idx t]
    omega
  have j1 : (((win0_6.blk t).view.emb y) 1 : ℕ) = (y 1 : ℕ) := by
    blk_simp [idx t]
  refine (congrFun (after0_6 m c t) _).trans ?_
  refine (Value.canon6_eq _ _ _ _).trans ?_
  refine (pay_at m c t t.isLt ⟨y 0, h0⟩ ⟨768 + (y 1 : ℕ), by omega⟩ _ (by ext a; match a with | ⟨0, _⟩ => rfl | ⟨1, _⟩ => show (y 1 : ℕ) + 768 = 768 + (y 1 : ℕ); omega)).trans ?_
  exact congrArg₂ (prj m c) (Fin.ext j0.symm) (Fin.ext (congrArg (768 + ·) j1.symm))

/-- Result 5 after the run. -/
def G7 (c : Dev nD) : FVec Ideal S16384x512 .f32 := fun j => prj m c (j 0) ⟨2304 + (j 1 : ℕ), by have h : (j 1 : ℕ) < 512 := (j 1).isLt; omega⟩

theorem final7 : (dats m 0 c).arrAt 7 cfg0.N = G7 m c := by
  refine Dat.arrAt_eq_of_covers (dats m 0 c) 7 (G7 m c) (by decide +kernel) fun t hf y => ?_
  have h0 : (y 0 : ℕ) < 512 := (y 0).isLt
  have h1 : (y 1 : ℕ) < 512 := (y 1).isLt
  have j0 : (((win0_7.blk t).view.emb y) 0 : ℕ) = 512 * t + (y 0 : ℕ) := by
    blk_simp [idx t]
    omega
  have j1 : (((win0_7.blk t).view.emb y) 1 : ℕ) = (y 1 : ℕ) := by
    blk_simp [idx t]
  refine (congrFun (after0_7 m c t) _).trans ?_
  refine (Value.canon7_eq _ _ _ _).trans ?_
  refine (pay_at m c t t.isLt ⟨y 0, h0⟩ ⟨2304 + (y 1 : ℕ), by omega⟩ _ (by ext a; match a with | ⟨0, _⟩ => rfl | ⟨1, _⟩ => show (y 1 : ℕ) + 2304 = 2304 + (y 1 : ℕ); omega)).trans ?_
  exact congrArg₂ (prj m c) (Fin.ext j0.symm) (Fin.ext (congrArg (2304 + ·) j1.symm))

/-- Result 6 after the run. -/
def G8 (c : Dev nD) : FVec Ideal S16384x128 .f32 := fun j => prj m c (j 0) ⟨2816 + (j 1 : ℕ), by have h : (j 1 : ℕ) < 128 := (j 1).isLt; omega⟩

theorem final8 : (dats m 0 c).arrAt 8 cfg0.N = G8 m c := by
  refine Dat.arrAt_eq_of_covers (dats m 0 c) 8 (G8 m c) (by decide +kernel) fun t hf y => ?_
  have h0 : (y 0 : ℕ) < 512 := (y 0).isLt
  have h1 : (y 1 : ℕ) < 128 := (y 1).isLt
  have j0 : (((win0_8.blk t).view.emb y) 0 : ℕ) = 512 * t + (y 0 : ℕ) := by
    blk_simp [idx t]
    omega
  have j1 : (((win0_8.blk t).view.emb y) 1 : ℕ) = (y 1 : ℕ) := by
    blk_simp [idx t]
  refine (congrFun (after0_8 m c t) _).trans ?_
  refine (Value.canon8_eq _ _ _ _).trans ?_
  refine (pay_at m c t t.isLt ⟨y 0, h0⟩ ⟨2816 + (y 1 : ℕ), by omega⟩ _ (by ext a; match a with | ⟨0, _⟩ => rfl | ⟨1, _⟩ => show (y 1 : ℕ) + 2816 = 2816 + (y 1 : ℕ); omega)).trans ?_
  exact congrArg₂ (prj m c) (Fin.ext j0.symm) (Fin.ext (congrArg (2816 + ·) j1.symm))

end Cert.ProjIdeal.Lay

end
-- ==== Proof.ProjRef.lean ====
/-
  The input projection's reference, stage by stage: the same rows, normalised and times the weights.
-/
module

public import proofs.«01_k».proof.Proof.Gen.ProjRefIdeal.Read
public import proofs.«01_k».proof.Proof.LaySpec

@[expose] public section

set_option maxRecDepth 16384

noncomputable section

namespace Cert.ProjRefIdeal.Lay

open Idealize.ShloMosaic Idealize.ShloMosaic.TcCoe Idealize.SL.Sem Cert.ProjRefIdeal Cert.ProjRefIdeal.Gen Cert.ProjRefIdeal.Read Cert.Lay

variable (x0 : FVec Ideal S4x4096x1024 .f32) (x1 : FVec Ideal S1024 .f32) (x2 : FVec Ideal S1024x2824 .f32)

theorem norm_at (b : Fin 4) (t : Fin 4096) (k : Fin 1024) :
    val_main_v12 (F := Ideal) x0 x1 (ix3 b t k) = rms (fun k => x0 (ix3 b t k)) (fun k => x1 (ix1 k)) k := by
  pointwise [val_main_v0, val_main_v1, val_main_v2, val_main_v3, val_main_v4, val_main_v5, val_main_v6, val_main_v7, val_main_v8, val_main_v9, val_main_v10, val_main_v11, val_main_v12, val_main_cst, val_main_cst_0, val_main_cst_1, rms]

theorem prod_at (n : Fin 16384) (l : Fin 2824) :
    val_main_v14 (F := Ideal) x0 x1 x2 (ix2 n l) = dot (rms (fun k => x0 (ix3 (seq n n.isLt) (tok n) k)) (fun k => x1 (ix1 k))) (fun k => x2 (ix2 k l)) := by
  pointwise [val_main_v14, val_main_v13, dot]
  exact Finset.sum_congr rfl fun k _ => congrArg (· * _) (norm_at x0 x1 _ _ k)

theorem part15 (n : Fin 16384) (l : Fin 512) :
    val_main_v15 (F := Ideal) x0 x1 x2 (ix2 n l) = val_main_v14 (F := Ideal) x0 x1 x2 (ix2 n ⟨0 + l, by omega⟩) := by
  unfold val_main_v15
  generalize val_main_v14 (F := Ideal) x0 x1 x2 = y
  pointwise

theorem part16 (n : Fin 16384) (l : Fin 128) :
    val_main_v16 (F := Ideal) x0 x1 x2 (ix2 n l) = val_main_v14 (F := Ideal) x0 x1 x2 (ix2 n ⟨512 + l, by omega⟩) := by
  unfold val_main_v16
  generalize val_main_v14 (F := Ideal) x0 x1 x2 = y
  pointwise

theorem part17 (n : Fin 16384) (l : Fin 128) :
    val_main_v17 (F := Ideal) x0 x1 x2 (ix2 n l) = val_main_v14 (F := Ideal) x0 x1 x2 (ix2 n ⟨640 + l, by omega⟩) := by
  unfold val_main_v17
  generalize val_main_v14 (F := Ideal) x0 x1 x2 = y
  pointwise

theorem part18 (n : Fin 16384) (l : Fin 1536) :
    val_main_v18 (F := Ideal) x0 x1 x2 (ix2 n l) = val_main_v14 (F := Ideal) x0 x1 x2 (ix2 n ⟨768 + l, by omega⟩) := by
  unfold val_main_v18
  generalize val_main_v14 (F := Ideal) x0 x1 x2 = y
  pointwise

theorem part19 (n : Fin 16384) (l : Fin 512) :
    val_main_v19 (F := Ideal) x0 x1 x2 (ix2 n l) = val_main_v14 (F := Ideal) x0 x1 x2 (ix2 n ⟨2304 + l, by omega⟩) := by
  unfold val_main_v19
  generalize val_main_v14 (F := Ideal) x0 x1 x2 = y
  pointwise

theorem part20 (n : Fin 16384) (l : Fin 4) :
    val_main_v20 (F := Ideal) x0 x1 x2 (ix2 n l) = val_main_v14 (F := Ideal) x0 x1 x2 (ix2 n ⟨2816 + l, by omega⟩) := by
  unfold val_main_v20
  generalize val_main_v14 (F := Ideal) x0 x1 x2 = y
  pointwise

theorem part21 (n : Fin 16384) (l : Fin 4) :
    val_main_v21 (F := Ideal) x0 x1 x2 (ix2 n l) = val_main_v14 (F := Ideal) x0 x1 x2 (ix2 n ⟨2820 + l, by omega⟩) := by
  unfold val_main_v21
  generalize val_main_v14 (F := Ideal) x0 x1 x2 = y
  pointwise

theorem last_at (n : Fin 16384) (l : Fin 128) (h : (l : ℕ) < 8) :
    val_main_v23 (F := Ideal) x0 x1 x2 (ix2 n l) = val_main_v14 (F := Ideal) x0 x1 x2 (ix2 n ⟨2816 + l, by omega⟩) := by
  have e20 := part20 x0 x1 x2 n
  have e21 := part21 x0 x1 x2 n
  unfold val_main_v23
  generalize val_main_v20 (F := Ideal) x0 x1 x2 = y at *
  generalize val_main_v21 (F := Ideal) x0 x1 x2 = z at *
  pointwise
  by_cases h4 : (l : ℕ) < 4
  · exact (dif_pos h4).trans (e20 ⟨l, h4⟩)
  · refine ((dif_neg h4).trans (dif_pos (show (l : ℕ) - 4 < 4 by omega))).trans ((e21 ⟨l - 4, by omega⟩).trans ?_)
    exact congrArg (fun l => val_main_v14 (F := Ideal) x0 x1 x2 (ix2 n l)) (Fin.ext (by simp only []; omega))

theorem last_zero (n : Fin 16384) (l : Fin 128) (h : ¬ (l : ℕ) < 8) :
    val_main_v23 (F := Ideal) x0 x1 x2 (ix2 n l) = 0 := by
  unfold val_main_v23
  generalize val_main_v20 (F := Ideal) x0 x1 x2 = y
  generalize val_main_v21 (F := Ideal) x0 x1 x2 = z
  pointwise [val_main_v22, val_main_cst_2]
  exact (dif_neg (by omega)).trans (dif_neg (by omega))

end Cert.ProjRefIdeal.Lay

end
-- ==== Proof.ProjClaims.lean ====
/-
  The input projection's claims: its runs leave the arguments, and kernel and reference end with the same six arrays.
-/
module

public import proofs.«01_k».proof.Defs
public import proofs.«01_k».proof.Proof.Gen.Proj.Frame
public import proofs.«01_k».proof.Proof.Gen.ProjIdeal.Frame
public import proofs.«01_k».proof.Proof.Gen.ProjIdeal.Value
public import proofs.«01_k».proof.Proof.Gen.ProjRefIdeal.Run
public import proofs.«01_k».proof.Proof.ProjVal
public import proofs.«01_k».proof.Proof.ProjRef

@[expose] public section

set_option maxRecDepth 16384

noncomputable section

namespace Cert.ProjClaims

open Idealize.ShloMosaic Idealize.ShloMosaic.TcCoe Idealize.SL.Sem Cert.Lay

theorem frame : Cert.quiescent_Proj := fun m ρ _ => Cert.Proj.Gen.frame m ρ

theorem frameI : Cert.quiescent_ProjIdeal := fun m ρ _ => Cert.ProjIdeal.Gen.frame m ρ

theorem frameR : Cert.quiescent_ProjRefIdeal := fun m ρ _ =>
  (θ_run Cert.ProjRefIdeal.defs _ _).mono (fun r h => ⟨fun c => (h c).2.2.2.2.2.2, sem_eq_zero_of_no_sems (by decide) r.2⟩)
    (Cert.ProjRefIdeal.Value.run (F := Ideal) m ρ)

section same

variable (m : (ℓ : Loc Cert.ProjIdeal.nD Cert.ProjIdeal.τ Cert.ProjIdeal.sig) → Buf (Elt Ideal) ℓ) (c : Dev Cert.ProjIdeal.nD)

/-- The arguments as the reference takes them. -/
abbrev A0 : FVec Ideal Cert.ProjIdeal.S4x4096x1024 .f32 := m ((c.tc : Thread Cert.ProjIdeal.nD Cert.ProjIdeal.τ).loc Cert.ProjIdeal.main_arg0)
abbrev A1 : FVec Ideal Cert.ProjIdeal.S1024 .f32 := m ((c.tc : Thread Cert.ProjIdeal.nD Cert.ProjIdeal.τ).loc Cert.ProjIdeal.main_arg1)
abbrev A2 : FVec Ideal Cert.ProjIdeal.S1024x2824 .f32 := m ((c.tc : Thread Cert.ProjIdeal.nD Cert.ProjIdeal.τ).loc Cert.ProjIdeal.main_arg2)

/-- Below the padding the kernel's entry is the reference's. -/
theorem prod_eq (n : Fin 16384) (l : Fin 2824) :
    Cert.ProjRefIdeal.Read.val_main_v14 (F := Ideal) (A0 m c) (A1 m c) (A2 m c) (ix2 n l) = Cert.ProjIdeal.Lay.prj m c n ⟨l, by omega⟩ := by
  refine (Cert.ProjRefIdeal.Lay.prod_at _ _ _ n l).trans ?_
  unfold Cert.ProjIdeal.Lay.prj
  congr 1
  funext k
  exact (Cert.ProjIdeal.Lay.colp_lt (A2 m c) ⟨l, by omega⟩ k l.isLt).symm

/-- In the padding the kernel's entry is zero. -/
theorem prod_zero (n : Fin 16384) (l : Fin 2944) (h : ¬ (l : ℕ) < 2824) : Cert.ProjIdeal.Lay.prj m c n l = 0 := by
  unfold Cert.ProjIdeal.Lay.prj dot
  refine Finset.sum_eq_zero fun k _ => ?_
  rw [show Cert.ProjIdeal.Lay.colp (m (c, Cert.ProjIdeal.main_arg2)) l k = 0 from dif_neg h]
  exact mul_zero _

theorem same3 : Cert.ProjRefIdeal.Read.val_main_v15 (F := Ideal) (A0 m c) (A1 m c) (A2 m c) = Cert.ProjIdeal.Lay.G3 m c := by
  funext j
  refine (congrArg _ (eta j)).trans ?_
  exact (Cert.ProjRefIdeal.Lay.part15 _ _ _ (j 0) (j 1)).trans (prod_eq m c _ _)

theorem same4 : Cert.ProjRefIdeal.Read.val_main_v16 (F := Ideal) (A0 m c) (A1 m c) (A2 m c) = Cert.ProjIdeal.Lay.G4 m c := by
  funext j
  refine (congrArg _ (eta j)).trans ?_
  exact (Cert.ProjRefIdeal.Lay.part16 _ _ _ (j 0) (j 1)).trans (prod_eq m c _ _)

theorem same5 : Cert.ProjRefIdeal.Read.val_main_v17 (F := Ideal) (A0 m c) (A1 m c) (A2 m c) = Cert.ProjIdeal.Lay.G5 m c := by
  funext j
  refine (congrArg _ (eta j)).trans ?_
  exact (Cert.ProjRefIdeal.Lay.part17 _ _ _ (j 0) (j 1)).trans (prod_eq m c _ _)

theorem same6 : Cert.ProjRefIdeal.Read.val_main_v18 (F := Ideal) (A0 m c) (A1 m c) (A2 m c) = Cert.ProjIdeal.Lay.G6 m c := by
  funext j
  refine (congrArg _ (eta j)).trans ?_
  exact (Cert.ProjRefIdeal.Lay.part18 _ _ _ (j 0) (j 1)).trans (prod_eq m c _ _)

theorem same7 : Cert.ProjRefIdeal.Read.val_main_v19 (F := Ideal) (A0 m c) (A1 m c) (A2 m c) = Cert.ProjIdeal.Lay.G7 m c := by
  funext j
  refine (congrArg _ (eta j)).trans ?_
  exact (Cert.ProjRefIdeal.Lay.part19 _ _ _ (j 0) (j 1)).trans (prod_eq m c _ _)

theorem same8 : Cert.ProjRefIdeal.Read.val_main_v23 (F := Ideal) (A0 m c) (A1 m c) (A2 m c) = Cert.ProjIdeal.Lay.G8 m c := by
  funext j
  refine (congrArg _ (eta j)).trans ?_
  by_cases h : (j 1 : ℕ) < 8
  · exact (Cert.ProjRefIdeal.Lay.last_at _ _ _ (j 0) (j 1) h).trans (prod_eq m c _ _)
  · exact (Cert.ProjRefIdeal.Lay.last_zero _ _ _ (j 0) (j 1) h).trans (prod_zero m c _ _ (by simp only []; omega)).symm

end same

theorem algebraic : Cert.algebraic_ProjIdeal_ProjRefIdeal := by
  intro m ρ m' ρ' hp hag
  refine ⟨fun c => Cert.ProjIdeal.Lay.G3 m c, fun c => Cert.ProjIdeal.Lay.G4 m c, fun c => Cert.ProjIdeal.Lay.G5 m c,
    fun c => Cert.ProjIdeal.Lay.G6 m c, fun c => Cert.ProjIdeal.Lay.G7 m c, fun c => Cert.ProjIdeal.Lay.G8 m c, ?_, ?_⟩
  · exact (θ_run Cert.ProjIdeal.defs _ _).mono (fun _ h c => by
      obtain ⟨h3, h4, h5, h6, h7, h8, h⟩ := h c
      exact ⟨h3.trans (Cert.ProjIdeal.Lay.final3 m c), h4.trans (Cert.ProjIdeal.Lay.final4 m c), h5.trans (Cert.ProjIdeal.Lay.final5 m c),
        h6.trans (Cert.ProjIdeal.Lay.final6 m c), h7.trans (Cert.ProjIdeal.Lay.final7 m c), h8.trans (Cert.ProjIdeal.Lay.final8 m c), h⟩)
      (Cert.ProjIdeal.Value.run_blocks (F := Ideal) m ρ)
  · refine (θ_run Cert.ProjRefIdeal.defs _ _).mono (fun _ h c => ?_) (Cert.ProjRefIdeal.Value.run (F := Ideal) m' ρ')
    obtain ⟨h3, h4, h5, h6, h7, h8, h⟩ := h c
    obtain ⟨a0, a1, a2⟩ := hag c
    refine ⟨(h3.trans (Cert.ProjRefIdeal.Read.val_main_v15_eq (F := Ideal) _ _ _)).trans ?_, (h4.trans (Cert.ProjRefIdeal.Read.val_main_v16_eq (F := Ideal) _ _ _)).trans ?_,
      (h5.trans (Cert.ProjRefIdeal.Read.val_main_v17_eq (F := Ideal) _ _ _)).trans ?_, (h6.trans (Cert.ProjRefIdeal.Read.val_main_v18_eq (F := Ideal) _ _ _)).trans ?_,
      (h7.trans (Cert.ProjRefIdeal.Read.val_main_v19_eq (F := Ideal) _ _ _)).trans ?_, (h8.trans (Cert.ProjRefIdeal.Read.val_main_v23_eq (F := Ideal) _ _ _)).trans ?_, h⟩
    all_goals rw [a0, a1, a2]
    exacts [same3 m c, same4 m c, same5 m c, same6 m c, same7 m c, same8 m c]

end Cert.ProjClaims

end
-- ==== Proof.MixVal.lean ====
/-
  The output projection's results after the run: each block's residual rows, the same rows normalised, and their queries.
-/
module

public import proofs.«01_k».proof.Proof.Gen.MixIdeal.Value
public import proofs.«01_k».proof.Proof.LaySpec
public import Idealize.ShloMosaic.Lib.Pipeline.ValueKit
public import Idealize.ShloMosaic.Lib.StableHlo.RunRead

@[expose] public section

set_option maxRecDepth 16384

noncomputable section

namespace Cert.MixIdeal.Lay

open Idealize.ShloMosaic Idealize.ShloMosaic.TcCoe Idealize.SL.Sem Cert.MixIdeal Cert.MixIdeal.Gen Cert.Lay
open Idealize.ShloMosaic.Pipeline (Dat)

variable (m : (ℓ : Loc nD τ sig) → Buf (Elt Ideal) ℓ) (c : Dev nD)

/-- The residual with the two products, at an entry. -/
theorem pay2_apply (P0 : Vec Ideal S512x1024 .f32) (P1 : Vec Ideal S512x512 .bf16) (P2 : Vec Ideal S512x1024 .bf16) (P3 : Vec Ideal S512x512 .bf16) (P4 : Vec Ideal S512x1024 .bf16) (r : Fin 512) (d : Fin 1024) :
    k0_pay2 P0 P1 P2 P3 P4 (ix2 r d) = P0 (ix2 r d) + ∑ k : Fin 512, P1 (ix2 r k) * P2 (ix2 k d) + ∑ k : Fin 512, P3 (ix2 r k) * P4 (ix2 k d) := by
  pointwise [k0_pay2]

/-- Its row normalised, at an entry. -/
theorem pay3_apply (P0 : Vec Ideal S512x1024 .f32) (P1 : Vec Ideal S512x512 .bf16) (P2 : Vec Ideal S512x1024 .bf16) (P3 : Vec Ideal S512x512 .bf16) (P4 : Vec Ideal S512x1024 .bf16) (P5 : Vec Ideal S1x1024 .f32) (r : Fin 512) (d : Fin 1024) :
    k0_pay3 P0 P1 P2 P3 P4 P5 (ix2 r d) = rms (fun k => k0_pay2 P0 P1 P2 P3 P4 (ix2 r k)) (fun k => P5 (ix2 0 k)) d := by
  unfold k0_pay3
  generalize k0_pay2 P0 P1 P2 P3 P4 = y
  pointwise [rms]

theorem pay1_apply (P0 : Vec Ideal S512x1024 .bf16) (P1 : Vec Ideal S1024x2048 .bf16) (r : Fin 512) (l : Fin 2048) :
    k0_pay1 P0 (k0_pay4 P1) (constant S512x2048 .f32 0x00000000#32) (ix2 r l) = dot (fun k => P0 (ix2 r k)) (fun k => P1 (ix2 k l)) := by
  pointwise [k0_pay1, k0_pay4, dot]

theorem idx : ∀ t : Fin grid0.N,
    win0_0.index t = ![t.val, 0] ∧ win0_1.index t = ![t.val, 0] ∧ win0_2.index t = ![t.val, 0] ∧
    win0_3.index t = ![0, 0] ∧ win0_4.index t = ![0, 0] ∧ win0_5.index t = ![0, 0] ∧ win0_6.index t = ![0, 0] ∧
    win0_7.index t = ![t.val, 0] ∧ win0_8.index t = ![t.val, 0] ∧ win0_9.index t = ![t.val, 0] := by decide +kernel

theorem att_at (n : Fin 16384) (k : Fin 512) :
    (V m c main_v1 : Vec Ideal S16384x512 .bf16) (ix2 n k) = m (c, main_arg0) (ix3 (seq n n.isLt) (tok n) k) := by
  simp (disch := decide) only [V, StableHlo.readAfter, StableHlo.readUpto, StableHlo.nullary_result', StableHlo.unary_result', StableHlo.binary_result', StableHlo.reshape_result']
  pointwise [seq, tok]

theorem dn_at (n : Fin 16384) (k : Fin 512) :
    (V m c main_v3 : Vec Ideal S16384x512 .bf16) (ix2 n k) = m (c, main_arg1) (ix3 (seq n n.isLt) (tok n) k) := by
  simp (disch := decide) only [V, StableHlo.readAfter, StableHlo.readUpto, StableHlo.nullary_result', StableHlo.unary_result', StableHlo.binary_result', StableHlo.reshape_result']
  pointwise [seq, tok]

theorem x_at (n : Fin 16384) (k : Fin 1024) :
    (V m c main_v4 : Vec Ideal S16384x1024 .f32) (ix2 n k) = m (c, main_arg2) (ix3 (seq n n.isLt) (tok n) k) := by
  simp (disch := decide) only [V, StableHlo.readAfter, StableHlo.readUpto, StableHlo.nullary_result', StableHlo.unary_result', StableHlo.binary_result', StableHlo.reshape_result']
  pointwise [seq, tok]

theorem wa_at (n : Fin 512) (k : Fin 1024) :
    (V m c main_v6 : Vec Ideal S512x1024 .bf16) (ix2 n k) = m (c, main_arg3) (ix2 ⟨n, by omega⟩ k) := by
  simp (disch := decide) only [V, StableHlo.readAfter, StableHlo.readUpto, StableHlo.nullary_result', StableHlo.unary_result', StableHlo.binary_result', StableHlo.reshape_result']
  pointwise

theorem wd_at (n : Fin 512) (k : Fin 1024) :
    (V m c main_v8 : Vec Ideal S512x1024 .bf16) (ix2 n k) = m (c, main_arg3) (ix2 ⟨512 + n, by omega⟩ k) := by
  simp (disch := decide) only [V, StableHlo.readAfter, StableHlo.readUpto, StableHlo.nullary_result', StableHlo.unary_result', StableHlo.binary_result', StableHlo.reshape_result']
  pointwise

theorem wn_at (n : Fin 1) (k : Fin 1024) :
    (V m c main_v10 : Vec Ideal S1x1024 .f32) (ix2 n k) = m (c, main_arg4) (ix1 k) := by
  simp (disch := decide) only [V, StableHlo.readAfter, StableHlo.readUpto, StableHlo.nullary_result', StableHlo.unary_result', StableHlo.binary_result', StableHlo.reshape_result']
  pointwise

theorem wq_at (n : Fin 1024) (k : Fin 2048) :
    (V m c main_v9 : Vec Ideal S1024x2048 .bf16) (ix2 n k) = m (c, main_arg5) (ix2 n k) := by
  simp (disch := decide) only [V, StableHlo.readAfter, StableHlo.readUpto, StableHlo.nullary_result', StableHlo.unary_result', StableHlo.binary_result', StableHlo.reshape_result']
  pointwise

theorem blk0 (t : Fin cfg0.N) (ht : (t : ℕ) < 32) (r : Fin 512) (k : Fin 512) :
    View.ld (iblk m c 0 t : Vec Ideal S512x512 .bf16) r0_1 (ix2 r k) = (V m c main_v1 : Vec Ideal S16384x512 .bf16) (ix2 ⟨512 * t + r, by omega⟩ k) := by
  refine (congrFun (View.ld_unit_lit (S := S512x512) _ _ (by decide)) _).trans ?_
  blk_ext [iblk, idx t]

theorem blk1 (t : Fin cfg0.N) (ht : (t : ℕ) < 32) (r : Fin 512) (k : Fin 512) :
    View.ld (iblk m c 1 t : Vec Ideal S512x512 .bf16) r0_1 (ix2 r k) = (V m c main_v3 : Vec Ideal S16384x512 .bf16) (ix2 ⟨512 * t + r, by omega⟩ k) := by
  refine (congrFun (View.ld_unit_lit (S := S512x512) _ _ (by decide)) _).trans ?_
  blk_ext [iblk, idx t]

theorem blk2 (t : Fin cfg0.N) (ht : (t : ℕ) < 32) (r : Fin 512) (k : Fin 1024) :
    View.ld (iblk m c 2 t : Vec Ideal S512x1024 .f32) r0_0 (ix2 r k) = (V m c main_v4 : Vec Ideal S16384x1024 .f32) (ix2 ⟨512 * t + r, by omega⟩ k) := by
  refine (congrFun (View.ld_unit_lit (S := S512x1024) _ _ (by decide)) _).trans ?_
  blk_ext [iblk, idx t]

theorem blk3 (t : Fin cfg0.N) (r : Fin 512) (k : Fin 1024) :
    View.ld (iblk m c 3 t : Vec Ideal S512x1024 .bf16) r0_0 (ix2 r k) = (V m c main_v6 : Vec Ideal S512x1024 .bf16) (ix2 r k) := by
  refine (congrFun (View.ld_unit_lit (S := S512x1024) _ _ (by decide)) _).trans ?_
  blk_ext [iblk, idx t]

theorem blk4 (t : Fin cfg0.N) (r : Fin 512) (k : Fin 1024) :
    View.ld (iblk m c 4 t : Vec Ideal S512x1024 .bf16) r0_0 (ix2 r k) = (V m c main_v8 : Vec Ideal S512x1024 .bf16) (ix2 r k) := by
  refine (congrFun (View.ld_unit_lit (S := S512x1024) _ _ (by decide)) _).trans ?_
  blk_ext [iblk, idx t]

theorem blk5 (t : Fin cfg0.N) (r : Fin 1) (k : Fin 1024) :
    View.ld (iblk m c 5 t : Vec Ideal S1x1024 .f32) r0_2 (ix2 r k) = (V m c main_v10 : Vec Ideal S1x1024 .f32) (ix2 r k) := by
  refine (congrFun (View.ld_unit_lit (S := S1x1024) _ _ (by decide)) _).trans ?_
  blk_ext [iblk, idx t]

theorem blk6 (t : Fin cfg0.N) (r : Fin 1024) (k : Fin 2048) :
    View.ld (iblk m c 6 t : Vec Ideal S1024x2048 .bf16) r0_3 (ix2 r k) = (V m c main_v9 : Vec Ideal S1024x2048 .bf16) (ix2 r k) := by
  refine (congrFun (View.ld_unit_lit (S := S1024x2048) _ _ (by decide)) _).trans ?_
  blk_ext [iblk, idx t]

/-- Row `n`'s residual. -/
def res (c : Dev nD) (n : Fin 16384) (d : Fin 1024) : EReal :=
  mix (m (c, main_arg2) (ix3 (seq n n.isLt) (tok n) d)) (fun k => m (c, main_arg0) (ix3 (seq n n.isLt) (tok n) k)) (fun k => m (c, main_arg1) (ix3 (seq n n.isLt) (tok n) k))
    (fun k => m (c, main_arg3) (ix2 k d))

/-- Row `n`'s residual, normalised. -/
def hid (c : Dev nD) (n : Fin 16384) (d : Fin 1024) : EReal := rms (res m c n) (fun k => m (c, main_arg4) (ix1 k)) d

/-- Row `n`'s queries. -/
def que (c : Dev nD) (n : Fin 16384) (l : Fin 2048) : EReal := dot (hid m c n) (fun k => m (c, main_arg5) (ix2 k l))

theorem res_at (t : Fin cfg0.N) (ht : (t : ℕ) < 32) (r : Fin 512) (d : Fin 1024) :
    k0_pay2 (View.ld (iblk m c 2 t) r0_0) (View.ld (iblk m c 0 t) r0_1) (View.ld (iblk m c 3 t) r0_0) (View.ld (iblk m c 1 t) r0_1) (View.ld (iblk m c 4 t) r0_0) (ix2 r d) = res m c ⟨512 * t + r, by omega⟩ d := by
  rw [pay2_apply]
  unfold res mix
  congr 1
  · congr 1
    · exact (blk2 m c t ht r d).trans (x_at m c _ d)
    · exact Finset.sum_congr rfl fun k _ => congrArg₂ (· * ·) ((blk0 m c t ht r k).trans (att_at m c _ k)) ((blk3 m c t k d).trans (wa_at m c k d))
  · exact Finset.sum_congr rfl fun k _ => congrArg₂ (· * ·) ((blk1 m c t ht r k).trans (dn_at m c _ k)) ((blk4 m c t k d).trans (wd_at m c k d))

theorem hid_at (t : Fin cfg0.N) (ht : (t : ℕ) < 32) (r : Fin 512) (d : Fin 1024) :
    k0_pay3 (View.ld (iblk m c 2 t) r0_0) (View.ld (iblk m c 0 t) r0_1) (View.ld (iblk m c 3 t) r0_0) (View.ld (iblk m c 1 t) r0_1) (View.ld (iblk m c 4 t) r0_0) (View.ld (iblk m c 5 t) r0_2) (ix2 r d) = hid m c ⟨512 * t + r, by omega⟩ d := by
  rw [pay3_apply]
  unfold hid
  exact congrArg₂ (fun x w => rms x w d) (funext fun k => res_at m c t ht r k) (funext fun k => (blk5 m c t 0 k).trans (wn_at m c 0 k))

theorem que_at (t : Fin cfg0.N) (ht : (t : ℕ) < 32) (r : Fin 512) (l : Fin 2048) :
    k0_pay1 (k0_pay3 (View.ld (iblk m c 2 t) r0_0) (View.ld (iblk m c 0 t) r0_1) (View.ld (iblk m c 3 t) r0_0) (View.ld (iblk m c 1 t) r0_1) (View.ld (iblk m c 4 t) r0_0) (View.ld (iblk m c 5 t) r0_2)) (k0_pay4 (View.ld (iblk m c 6 t) r0_3)) (constant S512x2048 .f32 0x00000000#32) (ix2 r l)
      = que m c ⟨512 * t + r, by omega⟩ l := by
  rw [pay1_apply]
  unfold que
  exact congrArg₂ dot (funext fun k => hid_at m c t ht r k) (funext fun k => (blk6 m c t k l).trans (wq_at m c k l))

/-- Result 1 after the run. -/
def G7 (c : Dev nD) : FVec Ideal S16384x1024 .f32 := fun j => res m c (j 0) (j 1)

theorem final7 : (dats m 0 c).arrAt 7 cfg0.N = G7 m c := by
  refine Dat.arrAt_eq_of_covers (dats m 0 c) 7 (G7 m c) (by decide +kernel) fun t hf y => ?_
  have h0 : (y 0 : ℕ) < 512 := (y 0).isLt
  have h1 : (y 1 : ℕ) < 1024 := (y 1).isLt
  have j0 : (((win0_7.blk t).view.emb y) 0 : ℕ) = 512 * t + (y 0 : ℕ) := by
    blk_simp [idx t]
    omega
  have j1 : (((win0_7.blk t).view.emb y) 1 : ℕ) = (y 1 : ℕ) := by
    blk_simp [idx t]
  refine (congrFun (after0_7 m c t) _).trans ?_
  refine (congrFun (View.canon_cons_unit_lit (S := S512x1024) _ _ _ (by decide)) _).trans ?_
  refine ((congrArg _ (eta (a := 512) (b := 1024) y)).trans (res_at m c t t.isLt (y 0) (y 1))).trans ?_
  exact congrArg₂ (res m c) (Fin.ext j0.symm) (Fin.ext j1.symm)

/-- Result 2 after the run. -/
def G8 (c : Dev nD) : FVec Ideal S16384x1024 .bf16 := fun j => hid m c (j 0) (j 1)

theorem final8 : (dats m 0 c).arrAt 8 cfg0.N = G8 m c := by
  refine Dat.arrAt_eq_of_covers (dats m 0 c) 8 (G8 m c) (by decide +kernel) fun t hf y => ?_
  have h0 : (y 0 : ℕ) < 512 := (y 0).isLt
  have h1 : (y 1 : ℕ) < 1024 := (y 1).isLt
  have j0 : (((win0_8.blk t).view.emb y) 0 : ℕ) = 512 * t + (y 0 : ℕ) := by
    blk_simp [idx t]
    omega
  have j1 : (((win0_8.blk t).view.emb y) 1 : ℕ) = (y 1 : ℕ) := by
    blk_simp [idx t]
  refine (congrFun (after0_8 m c t) _).trans ?_
  refine (congrFun (View.canon_cons_unit_lit (S := S512x1024) _ _ _ (by decide)) _).trans ?_
  refine ((congrArg _ (eta (a := 512) (b := 1024) y)).trans (hid_at m c t t.isLt (y 0) (y 1))).trans ?_
  exact congrArg₂ (hid m c) (Fin.ext j0.symm) (Fin.ext j1.symm)

/-- Result 3 after the run. -/
def G9 (c : Dev nD) : FVec Ideal S16384x2048 .f32 := fun j => que m c (j 0) (j 1)

theorem final9 : (dats m 0 c).arrAt 9 cfg0.N = G9 m c := by
  refine Dat.arrAt_eq_of_covers (dats m 0 c) 9 (G9 m c) (by decide +kernel) fun t hf y => ?_
  have h0 : (y 0 : ℕ) < 512 := (y 0).isLt
  have h1 : (y 1 : ℕ) < 2048 := (y 1).isLt
  have j0 : (((win0_9.blk t).view.emb y) 0 : ℕ) = 512 * t + (y 0 : ℕ) := by
    blk_simp [idx t]
    omega
  have j1 : (((win0_9.blk t).view.emb y) 1 : ℕ) = (y 1 : ℕ) := by
    blk_simp [idx t]
  refine (congrFun (after0_9 m c t) _).trans ?_
  refine (congrFun (View.canon_cons_unit_lit (S := S512x2048) _ _ _ (by decide)) _).trans ?_
  refine ((congrArg _ (eta (a := 512) (b := 2048) y)).trans (que_at m c t t.isLt (y 0) (y 1))).trans ?_
  exact congrArg₂ (que m c) (Fin.ext j0.symm) (Fin.ext j1.symm)

end Cert.MixIdeal.Lay

end
-- ==== Proof.MixRef.lean ====
/-
  The output projection's reference, stage by stage: the same residual rows, normalised, and their queries.
-/
module

public import proofs.«01_k».proof.Proof.Gen.MixRefIdeal.Read
public import proofs.«01_k».proof.Proof.LaySpec

@[expose] public section

set_option maxRecDepth 16384

noncomputable section

namespace Cert.MixRefIdeal.Lay

open Idealize.ShloMosaic Idealize.ShloMosaic.TcCoe Idealize.SL.Sem Cert.MixRefIdeal Cert.MixRefIdeal.Gen Cert.MixRefIdeal.Read Cert.Lay

variable (x0 x1 : FVec Ideal S4x4096x512 .f32) (x2 : FVec Ideal S4x4096x1024 .f32) (x3 : FVec Ideal S1024x1024 .f32) (x4 : FVec Ideal S1024 .f32) (x5 : FVec Ideal S1024x2048 .f32)

/-- The two halves' product is the sum of the halves' products. -/
theorem res_at (b : Fin 4) (t : Fin 4096) (d : Fin 1024) :
    val_main_v2 (F := Ideal) x0 x1 x2 x3 (ix3 b t d) = mix (x2 (ix3 b t d)) (fun k => x0 (ix3 b t k)) (fun k => x1 (ix3 b t k)) (fun k => x3 (ix2 k d)) := by
  have lo : ∀ k : Fin 512, val_main_v0 (F := Ideal) x0 x1 (ix3 b t ⟨k, by omega⟩) = x0 (ix3 b t k) := fun k => by
    pointwise [val_main_v0]
  have hi : ∀ k : Fin 512, val_main_v0 (F := Ideal) x0 x1 (ix3 b t ⟨512 + k, by omega⟩) = x1 (ix3 b t k) := fun k => by
    pointwise [val_main_v0]
  pointwise [val_main_v2, val_main_v1]
  rw [sum_halves]
  simp only [lo, hi]
  exact (add_assoc _ _ _).symm

theorem hid_at (b : Fin 4) (t : Fin 4096) (d : Fin 1024) :
    val_main_v15 (F := Ideal) x0 x1 x2 x3 x4 (ix3 b t d) = rms (fun k => val_main_v2 (F := Ideal) x0 x1 x2 x3 (ix3 b t k)) (fun k => x4 (ix1 k)) d := by
  unfold val_main_v15 val_main_v12 val_main_v11 val_main_v10 val_main_v9 val_main_v7 val_main_v5 val_main_v4 val_main_v3
  generalize val_main_v2 (F := Ideal) x0 x1 x2 x3 = y
  pointwise [val_main_v6, val_main_v8, val_main_v13, val_main_v14, val_main_cst, val_main_cst_0, val_main_cst_1, rms]

theorem res_row (n : Fin 16384) (d : Fin 1024) :
    val_main_v17 (F := Ideal) x0 x1 x2 x3 (ix2 n d) = val_main_v2 (F := Ideal) x0 x1 x2 x3 (ix3 (seq n n.isLt) (tok n) d) := by
  unfold val_main_v17
  generalize val_main_v2 (F := Ideal) x0 x1 x2 x3 = y
  pointwise [seq, tok]

theorem hid_row (n : Fin 16384) (d : Fin 1024) :
    val_main_v16 (F := Ideal) x0 x1 x2 x3 x4 (ix2 n d) = val_main_v15 (F := Ideal) x0 x1 x2 x3 x4 (ix3 (seq n n.isLt) (tok n) d) := by
  unfold val_main_v16
  generalize val_main_v15 (F := Ideal) x0 x1 x2 x3 x4 = y
  pointwise [seq, tok]

theorem hid_cast (n : Fin 16384) (d : Fin 1024) :
    val_main_v18 (F := Ideal) x0 x1 x2 x3 x4 (ix2 n d) = val_main_v16 (F := Ideal) x0 x1 x2 x3 x4 (ix2 n d) := rfl

theorem que_at (n : Fin 16384) (l : Fin 2048) :
    val_main_v19 (F := Ideal) x0 x1 x2 x3 x4 x5 (ix2 n l) = dot (fun k => val_main_v16 (F := Ideal) x0 x1 x2 x3 x4 (ix2 n k)) (fun k => x5 (ix2 k l)) := by
  unfold val_main_v19
  generalize val_main_v16 (F := Ideal) x0 x1 x2 x3 x4 = y
  pointwise [dot]

end Cert.MixRefIdeal.Lay

end
-- ==== Proof.MixClaims.lean ====
/-
  The output projection's claims: its runs leave the arguments, and kernel and reference end with the same three arrays.
-/
module

public import proofs.«01_k».proof.Defs
public import proofs.«01_k».proof.Proof.Gen.Mix.Frame
public import proofs.«01_k».proof.Proof.Gen.MixIdeal.Frame
public import proofs.«01_k».proof.Proof.Gen.MixIdeal.Value
public import proofs.«01_k».proof.Proof.Gen.MixRefIdeal.Run
public import proofs.«01_k».proof.Proof.MixVal
public import proofs.«01_k».proof.Proof.MixRef

@[expose] public section

set_option maxRecDepth 16384

noncomputable section

namespace Cert.MixClaims

open Idealize.ShloMosaic Idealize.ShloMosaic.TcCoe Idealize.SL.Sem Cert.Lay

theorem frame : Cert.quiescent_Mix := fun m ρ _ => Cert.Mix.Gen.frame m ρ

theorem frameI : Cert.quiescent_MixIdeal := fun m ρ _ => Cert.MixIdeal.Gen.frame m ρ

theorem frameR : Cert.quiescent_MixRefIdeal := fun m ρ _ =>
  (θ_run Cert.MixRefIdeal.defs _ _).mono (fun r h => ⟨fun c => (h c).2.2.2, sem_eq_zero_of_no_sems (by decide) r.2⟩)
    (Cert.MixRefIdeal.Value.run (F := Ideal) m ρ)

section same

variable (m : (ℓ : Loc Cert.MixIdeal.nD Cert.MixIdeal.τ Cert.MixIdeal.sig) → Buf (Elt Ideal) ℓ) (c : Dev Cert.MixIdeal.nD)

/-- The arguments as the reference takes them. -/
abbrev A0 : FVec Ideal Cert.MixIdeal.S4x4096x512 .f32 := m ((c.tc : Thread Cert.MixIdeal.nD Cert.MixIdeal.τ).loc Cert.MixIdeal.main_arg0)
abbrev A1 : FVec Ideal Cert.MixIdeal.S4x4096x512 .f32 := m ((c.tc : Thread Cert.MixIdeal.nD Cert.MixIdeal.τ).loc Cert.MixIdeal.main_arg1)
abbrev A2 : FVec Ideal Cert.MixIdeal.S4x4096x1024 .f32 := m ((c.tc : Thread Cert.MixIdeal.nD Cert.MixIdeal.τ).loc Cert.MixIdeal.main_arg2)
abbrev A3 : FVec Ideal Cert.MixIdeal.S1024x1024 .f32 := m ((c.tc : Thread Cert.MixIdeal.nD Cert.MixIdeal.τ).loc Cert.MixIdeal.main_arg3)
abbrev A4 : FVec Ideal Cert.MixIdeal.S1024 .f32 := m ((c.tc : Thread Cert.MixIdeal.nD Cert.MixIdeal.τ).loc Cert.MixIdeal.main_arg4)
abbrev A5 : FVec Ideal Cert.MixIdeal.S1024x2048 .f32 := m ((c.tc : Thread Cert.MixIdeal.nD Cert.MixIdeal.τ).loc Cert.MixIdeal.main_arg5)

theorem res_eq (n : Fin 16384) (d : Fin 1024) :
    Cert.MixRefIdeal.Read.val_main_v2 (F := Ideal) (A0 m c) (A1 m c) (A2 m c) (A3 m c) (ix3 (seq n n.isLt) (tok n) d) = Cert.MixIdeal.Lay.res m c n d :=
  Cert.MixRefIdeal.Lay.res_at _ _ _ _ _ _ _

theorem hid_eq (n : Fin 16384) (d : Fin 1024) :
    Cert.MixRefIdeal.Read.val_main_v16 (F := Ideal) (A0 m c) (A1 m c) (A2 m c) (A3 m c) (A4 m c) (ix2 n d) = Cert.MixIdeal.Lay.hid m c n d := by
  refine (Cert.MixRefIdeal.Lay.hid_row _ _ _ _ _ n d).trans ((Cert.MixRefIdeal.Lay.hid_at _ _ _ _ _ _ _ d).trans ?_)
  unfold Cert.MixIdeal.Lay.hid
  exact congrArg (fun x => rms x _ d) (funext fun k => res_eq m c n k)

theorem same7 : Cert.MixRefIdeal.Read.val_main_v17 (F := Ideal) (A0 m c) (A1 m c) (A2 m c) (A3 m c) = Cert.MixIdeal.Lay.G7 m c := by
  funext j
  refine (congrArg _ (eta j)).trans ?_
  exact (Cert.MixRefIdeal.Lay.res_row _ _ _ _ (j 0) (j 1)).trans (res_eq m c _ _)

theorem same8 : Cert.MixRefIdeal.Read.val_main_v18 (F := Ideal) (A0 m c) (A1 m c) (A2 m c) (A3 m c) (A4 m c) = Cert.MixIdeal.Lay.G8 m c := by
  funext j
  refine (congrArg _ (eta j)).trans ?_
  exact (Cert.MixRefIdeal.Lay.hid_cast _ _ _ _ _ (j 0) (j 1)).trans (hid_eq m c _ _)

theorem same9 : Cert.MixRefIdeal.Read.val_main_v19 (F := Ideal) (A0 m c) (A1 m c) (A2 m c) (A3 m c) (A4 m c) (A5 m c) = Cert.MixIdeal.Lay.G9 m c := by
  funext j
  refine (congrArg _ (eta j)).trans ?_
  refine (Cert.MixRefIdeal.Lay.que_at _ _ _ _ _ _ (j 0) (j 1)).trans ?_
  exact congrArg (fun x => dot x _) (funext fun k => hid_eq m c (j 0) k)

end same

theorem algebraic : Cert.algebraic_MixIdeal_MixRefIdeal := by
  intro m ρ m' ρ' hp hag
  refine ⟨fun c => Cert.MixIdeal.Lay.G7 m c, fun c => Cert.MixIdeal.Lay.G8 m c, fun c => Cert.MixIdeal.Lay.G9 m c, ?_, ?_⟩
  · exact (θ_run Cert.MixIdeal.defs _ _).mono (fun _ h c => by
      obtain ⟨h7, h8, h9, h⟩ := h c
      exact ⟨h7.trans (Cert.MixIdeal.Lay.final7 m c), h8.trans (Cert.MixIdeal.Lay.final8 m c), h9.trans (Cert.MixIdeal.Lay.final9 m c), h⟩)
      (Cert.MixIdeal.Value.run_blocks (F := Ideal) m ρ)
  · refine (θ_run Cert.MixRefIdeal.defs _ _).mono (fun _ h c => ?_) (Cert.MixRefIdeal.Value.run (F := Ideal) m' ρ')
    obtain ⟨h7, h8, h9, h⟩ := h c
    obtain ⟨a0, a1, a2, a3, a4, a5⟩ := hag c
    refine ⟨(h7.trans (Cert.MixRefIdeal.Read.val_main_v17_eq (F := Ideal) _ _ _ _)).trans ?_, (h8.trans (Cert.MixRefIdeal.Read.val_main_v18_eq (F := Ideal) _ _ _ _ _)).trans ?_,
      (h9.trans (Cert.MixRefIdeal.Read.val_main_v19_eq (F := Ideal) _ _ _ _ _ _)).trans ?_, h⟩
    · rw [a0, a1, a2, a3]
      exact same7 m c
    · rw [a0, a1, a2, a3, a4]
      exact same8 m c
    · rw [a0, a1, a2, a3, a4, a5]
      exact same9 m c

end Cert.MixClaims

end
-- ==== Proof.lean ====
/-
  The proof of `Cert.Claim`, from the claims of each program.
-/
module

public import proofs.«01_k».proof.Defs
public import proofs.«01_k».proof.Proof.AttClaims
public import proofs.«01_k».proof.Proof.ProjClaims
public import proofs.«01_k».proof.Proof.MixClaims

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Proj.Gen.facts, Cert.ProjIdeal.Gen.facts, Cert.ProjRefIdeal.Gen.facts,
    Cert.Mix.Gen.facts, Cert.MixIdeal.Gen.facts, Cert.MixRefIdeal.Gen.facts, Cert.Pre_finite_weights.facts,
    AttClaims.frame, AttClaims.frameI, AttClaims.frameP, AttClaims.frameR, AttClaims.frameRP,
    ProjClaims.frame, ProjClaims.frameI, ProjClaims.frameR, MixClaims.frame, MixClaims.frameI, MixClaims.frameR,
    trivial, AttClaims.algebraic, trivial, ProjClaims.algebraic, trivial, MixClaims.algebraic⟩

end Cert.Proof

end
